-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v6)) (v6 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_v10) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v152) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v27) = v5 c
          ∧ r.2.mem ((c.tc : Thread Cert.ReferenceIdeal.nD Cert.ReferenceIdeal.τ).loc Cert.ReferenceIdeal.main_v154) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x768x64x64 : Shape := ⟨4, ![4, 768, 64, 64]⟩
abbrev S2x768 : Shape := ⟨2, ![2, 768]⟩
abbrev S_ : Shape := ⟨0, ![]⟩
abbrev S4x768x4096 : Shape := ⟨3, ![4, 768, 4096]⟩
abbrev S1 : Shape := ⟨1, ![1]⟩
abbrev S2 : Shape := ⟨1, ![2]⟩
abbrev S4x1x4096 : Shape := ⟨3, ![4, 1, 4096]⟩
abbrev S4x2x4096 : Shape := ⟨3, ![4, 2, 4096]⟩
abbrev S1x1 : Shape := ⟨2, ![1, 1]⟩
abbrev S1x768x4096 : Shape := ⟨3, ![1, 768, 4096]⟩
abbrev S1x1x4096 : Shape := ⟨3, ![1, 1, 4096]⟩
abbrev S1x2x4096 : Shape := ⟨3, ![1, 2, 4096]⟩
abbrev S768x4096 : Shape := ⟨2, ![768, 4096]⟩
abbrev S2x1 : Shape := ⟨2, ![2, 1]⟩
abbrev S4096 : Shape := ⟨1, ![4096]⟩
abbrev S1x4096 : Shape := ⟨2, ![1, 4096]⟩
abbrev S2x4096 : Shape := ⟨2, ![2, 4096]⟩
abbrev S1x1x1 : Shape := ⟨3, ![1, 1, 1]⟩
abbrev S4x4096 : Shape := ⟨2, ![4, 4096]⟩
abbrev S4x4096x2 : Shape := ⟨3, ![4, 4096, 2]⟩

abbrev nBuf : Space → Nat
  | .hbm => 20
  | .vmem => 13
  | .smem => 1
  | _ => 0

abbrev bufTy : (tb : Table) → Fin (tcTables nBuf tb) → BufTy
  | .hbm, ⟨0, _⟩ => ⟨S4x768x64x64, .f32⟩
  | .hbm, ⟨1, _⟩ => ⟨S2x768, .f32⟩
  | .hbm, ⟨2, _⟩ => ⟨S_, .i32⟩
  | .hbm, ⟨3, _⟩ => ⟨S_, .i32⟩
  | .hbm, ⟨4, _⟩ => ⟨S4x768x4096, .f32⟩
  | .hbm, ⟨5, _⟩ => ⟨S1, .i32⟩
  | .hbm, ⟨6, _⟩ => ⟨S1, .i32⟩
  | .hbm, ⟨7, _⟩ => ⟨S2, .i32⟩
  | .hbm, ⟨8, _⟩ => ⟨S2, .f32⟩
  | .hbm, ⟨9, _⟩ => ⟨S2x768, .f32⟩
  | .hbm, ⟨10, _⟩ => ⟨S4x1x4096, .i32⟩
  | .hbm, ⟨11, _⟩ => ⟨S4x2x4096, .f32⟩
  | .hbm, ⟨12, _⟩ => ⟨S4x2x4096, .f32⟩
  | .hbm, ⟨13, _⟩ => ⟨S4x2x4096, .f32⟩
  | .hbm, ⟨14, _⟩ => ⟨S1x1, .f32⟩
  | .hbm, ⟨15, _⟩ => ⟨S4x4096, .i32⟩
  | .hbm, ⟨16, _⟩ => ⟨S4x4096x2, .f32⟩
  | .hbm, ⟨17, _⟩ => ⟨S4x4096x2, .f32⟩
  | .hbm, ⟨18, _⟩ => ⟨S4x4096x2, .f32⟩
  | .hbm, ⟨19, _⟩ => ⟨S_, .f32⟩
  | .local _ .vmem, ⟨0, _⟩ => ⟨S1x768x4096, .f32⟩
  | .local _ .vmem, ⟨1, _⟩ => ⟨S1x768x4096, .f32⟩
  | .local _ .vmem, ⟨2, _⟩ => ⟨S2x768, .f32⟩
  | .local _ .vmem, ⟨3, _⟩ => ⟨S2x768, .f32⟩
  | .local _ .vmem, ⟨4, _⟩ => ⟨S1x1x4096, .i32⟩
  | .local _ .vmem, ⟨5, _⟩ => ⟨S1x1x4096, .i32⟩
  | .local _ .vmem, ⟨6, _⟩ => ⟨S1x2x4096, .f32⟩
  | .local _ .vmem, ⟨7, _⟩ => ⟨S1x2x4096, .f32⟩
  | .local _ .vmem, ⟨8, _⟩ => ⟨S1x2x4096, .f32⟩
  | .local _ .vmem, ⟨9, _⟩ => ⟨S1x2x4096, .f32⟩
  | .local _ .vmem, ⟨10, _⟩ => ⟨S1x2x4096, .f32⟩
  | .local _ .vmem, ⟨11, _⟩ => ⟨S1x2x4096, .f32⟩
  | .local _ .vmem, ⟨12, _⟩ => ⟨S1x1, .f32⟩
  | .local _ .smem, ⟨0, _⟩ => ⟨S2, .f32⟩
  | _, _ => ⟨S4x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v113 : BitVec 1 := Scalar.cmpi .eq arg0 c3_i32
  let v114 : BitVec 32 := Scalar.extui v113
  let c0_i32_46 : BitVec 32 := 0#32
  let v115 : BitVec 1 := Scalar.cmpi .ne v114 c0_i32_46
  v115

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4x768x64x64 : Shape := ⟨4, ![4, 768, 64, 64]⟩
abbrev S2x768 : Shape := ⟨2, ![2, 768]⟩
abbrev S_ : Shape := ⟨0, ![]⟩
abbrev S4x768x4096 : Shape := ⟨3, ![4, 768, 4096]⟩
abbrev S2x2 : Shape := ⟨2, ![2, 2]⟩
abbrev S4x4096x768 : Shape := ⟨3, ![4, 4096, 768]⟩
abbrev S4x4096 : Shape := ⟨2, ![4, 4096]⟩
abbrev S4x4096x1 : Shape := ⟨3, ![4, 4096, 1]⟩
abbrev S2 : Shape := ⟨1, ![2]⟩
abbrev S2x1 : Shape := ⟨2, ![2, 1]⟩
abbrev S768x2 : Shape := ⟨2, ![768, 2]⟩
abbrev S4x4096x2 : Shape := ⟨3, ![4, 4096, 2]⟩
abbrev S4 : Shape := ⟨1, ![4]⟩
abbrev S4x1 : Shape := ⟨2, ![4, 1]⟩
abbrev S4096 : Shape := ⟨1, ![4096]⟩
abbrev S1x4096 : Shape := ⟨2, ![1, 4096]⟩
abbrev S4x4096x3 : Shape := ⟨3, ![4, 4096, 3]⟩
abbrev S4x1x1 : Shape := ⟨3, ![4, 1, 1]⟩
abbrev S4x4096x768x1 : Shape := ⟨4, ![4, 4096, 768, 1]⟩
abbrev S4x4096x1x2 : Shape := ⟨4, ![4, 4096, 1, 2]⟩
abbrev S4x4096x768x2 : Shape := ⟨4, ![4, 4096, 768, 2]⟩
abbrev S4x768x2 : Shape := ⟨3, ![4, 768, 2]⟩
abbrev S4x2 : Shape := ⟨2, ![4, 2]⟩
abbrev S4x1x2 : Shape := ⟨3, ![4, 1, 2]⟩
abbrev S4x2x768 : Shape := ⟨3, ![4, 2, 768]⟩
abbrev S1x2x768 : Shape := ⟨3, ![1, 2, 768]⟩

abbrev nBuf : Space → Nat
  | .hbm => 225
  | .vmem => 0
  | .smem => 0
  | _ => 0

abbrev hbmTy0_0 (i : Nat) : BufTy := match i % 128 with
  | 0 => ⟨S4x768x64x64, .f32⟩
  | 1 => ⟨S2x768, .f32⟩
  | 2 => ⟨S_, .i32⟩
  | 3 => ⟨S_, .i32⟩
  | 4 => ⟨S4x768x4096, .f32⟩
  | 5 => ⟨S2x2, .i32⟩
  | 6 => ⟨S2x2, .i32⟩
  | 7 => ⟨S_, .i32⟩
  | 8 => ⟨S2x2, .i32⟩
  | 9 => ⟨S2x2, .i32⟩
  | 10 => ⟨S2x2, .i1⟩
  | 11 => ⟨S2x2, .f32⟩
  | 12 => ⟨S4x4096x768, .f32⟩
  | 13 => ⟨S4x4096x768, .f32⟩
  | 14 => ⟨S_, .f32⟩
  | 15 => ⟨S4x4096, .f32⟩
  | 16 => ⟨S4x4096x1, .f32⟩
  | 17 => ⟨S4x4096x1, .f32⟩
  | 18 => ⟨S_, .f32⟩
  | 19 => ⟨S4x4096x1, .f32⟩
  | 20 => ⟨S4x4096x1, .f32⟩
  | 21 => ⟨S4x4096x768, .f32⟩
  | 22 => ⟨S4x4096x768, .f32⟩
  | 23 => ⟨S2x768, .f32⟩
  | 24 => ⟨S_, .f32⟩
  | 25 => ⟨S2, .f32⟩
  | 26 => ⟨S2x1, .f32⟩
  | 27 => ⟨S2x1, .f32⟩
  | 28 => ⟨S_, .f32⟩
  | 29 => ⟨S2x1, .f32⟩
  | 30 => ⟨S2x1, .f32⟩
  | 31 => ⟨S2x768, .f32⟩
  | 32 => ⟨S2x768, .f32⟩
  | 33 => ⟨S768x2, .f32⟩
  | 34 => ⟨S4x4096x2, .f32⟩
  | 35 => ⟨S_, .f32⟩
  | 36 => ⟨S4x4096x2, .f32⟩
  | 37 => ⟨S4x4096x2, .f32⟩
  | 38 => ⟨S_, .f32⟩
  | 39 => ⟨S4x4096x2, .f32⟩
  | 40 => ⟨S4x4096x2, .f32⟩
  | 41 => ⟨S4x4096x2, .i32⟩
  | 42 => ⟨S_, .f32⟩
  | 43 => ⟨S_, .i32⟩
  | 44 => ⟨S4x4096, .f32⟩
  | 45 => ⟨S4x4096, .i32⟩
  | 46 => ⟨S_, .i32⟩
  | 47 => ⟨S4x4096, .i32⟩
  | 48 => ⟨S4x4096, .i1⟩
  | 49 => ⟨S_, .i32⟩
  | 50 => ⟨S_, .i32⟩
  | 51 => ⟨S4x4096, .i32⟩
  | 52 => ⟨S4x4096, .i32⟩
  | 53 => ⟨S4x4096, .i32⟩
  | 54 => ⟨S4x4096x1, .f32⟩
  | 55 => ⟨S_, .f32⟩
  | 56 => ⟨S4x4096, .f32⟩
  | 57 => ⟨S4x4096x1, .f32⟩
  | 58 => ⟨S_, .f32⟩
  | 59 => ⟨S4x4096x1, .f32⟩
  | 60 => ⟨S4x4096x1, .f32⟩
  | 61 => ⟨S4x4096x1, .f32⟩
  | 62 => ⟨S_, .f32⟩
  | 63 => ⟨S4x4096, .f32⟩
  | 64 => ⟨S4x4096x1, .f32⟩
  | 65 => ⟨S_, .f32⟩
  | 66 => ⟨S4x4096x1, .f32⟩
  | 67 => ⟨S4x4096x1, .f32⟩
  | 68 => ⟨S4x4096x2, .f32⟩
  | 69 => ⟨S_, .i32⟩
  | 70 => ⟨S4x4096, .i32⟩
  | 71 => ⟨S4x4096, .i1⟩
  | 72 => ⟨S_, .i32⟩
  | 73 => ⟨S4x4096, .i32⟩
  | 74 => ⟨S4x4096, .i32⟩
  | 75 => ⟨S4x4096, .i32⟩
  | 76 => ⟨S4x4096x1, .i32⟩
  | 77 => ⟨S4x4096x2, .f32⟩
  | 78 => ⟨S4x4096x2, .f32⟩
  | 79 => ⟨S4x4096, .i32⟩
  | 80 => ⟨S_, .i32⟩
  | 81 => ⟨S4, .i32⟩
  | 82 => ⟨S_, .i32⟩
  | 83 => ⟨S4, .i32⟩
  | 84 => ⟨S4, .i32⟩
  | 85 => ⟨S_, .i32⟩
  | 86 => ⟨S4x4096, .i32⟩
  | 87 => ⟨S4x4096, .i32⟩
  | 88 => ⟨S4x4096, .i32⟩
  | 89 => ⟨S_, .i32⟩
  | 90 => ⟨S4, .i32⟩
  | 91 => ⟨S_, .i32⟩
  | 92 => ⟨S4, .i32⟩
  | 93 => ⟨S4, .i32⟩
  | 94 => ⟨S4x4096x1, .f32⟩
  | 95 => ⟨S4x4096, .f32⟩
  | 96 => ⟨S_, .f32⟩
  | 97 => ⟨S4, .f32⟩
  | 98 => ⟨S4, .f32⟩
  | 99 => ⟨S4, .f32⟩
  | 100 => ⟨S4x4096x1, .f32⟩
  | 101 => ⟨S4x4096, .f32⟩
  | 102 => ⟨S_, .f32⟩
  | 103 => ⟨S4, .f32⟩
  | 104 => ⟨S4, .f32⟩
  | 105 => ⟨S4, .f32⟩
  | 106 => ⟨S_, .f32⟩
  | 107 => ⟨S4x4096x2, .f32⟩
  | 108 => ⟨S4, .i32⟩
  | 109 => ⟨S4x1, .i32⟩
  | 110 => ⟨S4096, .i32⟩
  | 111 => ⟨S1x4096, .i32⟩
  | 112 => ⟨S_, .i32⟩
  | 113 => ⟨S4x1, .i32⟩
  | 114 => ⟨S4x1, .i1⟩
  | 115 => ⟨S_, .i32⟩
  | 116 => ⟨S4x1, .i32⟩
  | 117 => ⟨S4x1, .i32⟩
  | 118 => ⟨S4x1, .i32⟩
  | 119 => ⟨S_, .i32⟩
  | 120 => ⟨S1x4096, .i32⟩
  | 121 => ⟨S1x4096, .i1⟩
  | 122 => ⟨S_, .i32⟩
  | 123 => ⟨S1x4096, .i32⟩
  | 124 => ⟨S1x4096, .i32⟩
  | 125 => ⟨S1x4096, .i32⟩
  | 126 => ⟨S_, .i32⟩
  | 127 => ⟨S4x4096, .i32⟩
  | _ => ⟨S4x768x64x64, .f32⟩

abbrev hbmTy0_1 (i : Nat) : BufTy := match i % 128 with
  | 0 => ⟨S4x4096, .i1⟩
  | 1 => ⟨S_, .i32⟩
  | 2 => ⟨S4x4096, .i32⟩
  | 3 => ⟨S4x4096, .i32⟩
  | 4 => ⟨S4x4096, .i32⟩
  | 5 => ⟨S4x4096, .i32⟩
  | 6 => ⟨S4x4096, .i32⟩
  | 7 => ⟨S4x4096x1, .i32⟩
  | 8 => ⟨S4x4096x1, .i32⟩
  | 9 => ⟨S4x4096x1, .i32⟩
  | 10 => ⟨S4x4096x3, .i32⟩
  | 11 => ⟨S_, .f32⟩
  | 12 => ⟨S4x4096, .f32⟩
  | 13 => ⟨S4x4096x2, .f32⟩
  | 14 => ⟨S_, .f32⟩
  | 15 => ⟨S4x4096x2, .f32⟩
  | 16 => ⟨S4x4096x1, .f32⟩
  | 17 => ⟨S_, .f32⟩
  | 18 => ⟨S4, .f32⟩
  | 19 => ⟨S4, .f32⟩
  | 20 => ⟨S4x1x1, .f32⟩
  | 21 => ⟨S4x4096x1, .f32⟩
  | 22 => ⟨S4x4096x1, .i1⟩
  | 23 => ⟨S4x4096x2, .i1⟩
  | 24 => ⟨S4x4096x2, .f32⟩
  | 25 => ⟨S4x4096x1, .f32⟩
  | 26 => ⟨S_, .f32⟩
  | 27 => ⟨S4, .f32⟩
  | 28 => ⟨S4, .f32⟩
  | 29 => ⟨S4x1x1, .f32⟩
  | 30 => ⟨S4x4096x1, .f32⟩
  | 31 => ⟨S4x4096x1, .i1⟩
  | 32 => ⟨S4x4096x2, .i1⟩
  | 33 => ⟨S4x4096x2, .f32⟩
  | 34 => ⟨S4x4096x768x1, .f32⟩
  | 35 => ⟨S4x4096x1x2, .f32⟩
  | 36 => ⟨S4x4096x768x2, .f32⟩
  | 37 => ⟨S4x4096x768x2, .f32⟩
  | 38 => ⟨S4x4096x768x2, .f32⟩
  | 39 => ⟨S_, .f32⟩
  | 40 => ⟨S4x768x2, .f32⟩
  | 41 => ⟨S_, .f32⟩
  | 42 => ⟨S4x2, .f32⟩
  | 43 => ⟨S_, .f32⟩
  | 44 => ⟨S4x2, .f32⟩
  | 45 => ⟨S4x2, .f32⟩
  | 46 => ⟨S4x1x2, .f32⟩
  | 47 => ⟨S4x768x2, .f32⟩
  | 48 => ⟨S4x768x2, .f32⟩
  | 49 => ⟨S4x2x768, .f32⟩
  | 50 => ⟨S1x2x768, .f32⟩
  | 51 => ⟨S2x768, .f32⟩
  | 52 => ⟨S2x768, .f32⟩
  | 53 => ⟨S_, .f32⟩
  | 54 => ⟨S2, .f32⟩
  | 55 => ⟨S2x768, .f32⟩
  | 56 => ⟨S_, .f32⟩
  | 57 => ⟨S2, .f32⟩
  | 58 => ⟨S2, .f32⟩
  | 59 => ⟨S_, .f32⟩
  | 60 => ⟨S2, .f32⟩
  | 61 => ⟨S2, .f32⟩
  | 62 => ⟨S2x768, .f32⟩
  | 63 => ⟨S_, .f32⟩
  | 64 => ⟨S2, .f32⟩
  | 65 => ⟨S2, .f32⟩
  | 66 => ⟨S_, .f32⟩
  | 67 => ⟨S2, .f32⟩
  | 68 => ⟨S2, .f32⟩
  | 69 => ⟨S2, .f32⟩
  | 70 => ⟨S2, .f32⟩
  | 71 => ⟨S_, .f32⟩
  | 72 => ⟨S2x768, .f32⟩
  | 73 => ⟨S_, .f32⟩
  | 74 => ⟨S2x768, .f32⟩
  | 75 => ⟨S2x768, .f32⟩
  | 76 => ⟨S_, .f32⟩
  | 77 => ⟨S4x2, .f32⟩
  | 78 => ⟨S4x1x2, .f32⟩
  | 79 => ⟨S_, .f32⟩
  | 80 => ⟨S4x2, .f32⟩
  | 81 => ⟨S4x1x2, .f32⟩
  | 82 => ⟨S4x4096x2, .f32⟩
  | 83 => ⟨S4x4096x2, .f32⟩
  | 84 => ⟨S4x1x2, .f32⟩
  | 85 => ⟨S_, .f32⟩
  | 86 => ⟨S4x1x2, .f32⟩
  | 87 => ⟨S4x1x2, .f32⟩
  | 88 => ⟨S4x4096x2, .f32⟩
  | 89 => ⟨S4x4096x2, .f32⟩
  | 90 => ⟨S_, .f32⟩
  | 91 => ⟨S4x4096x2, .f32⟩
  | 92 => ⟨S4x4096x2, .f32⟩
  | 93 => ⟨S_, .f32⟩
  | 94 => ⟨S_, .f32⟩
  | 95 => ⟨S_, .f32⟩
  | 96 => ⟨S_, .f32⟩
  | _ => ⟨S4x768x64x64, .f32⟩

abbrev hbmTy (i : Nat) : BufTy := match i / 128 with
  | 0 => hbmTy0_0 i
  | 1 => hbmTy0_1 i
  | _ => ⟨S4x768x64x64, .f32⟩

abbrev bufTy : (tb : Table) → Fin (tcTables nBuf tb) → BufTy
  | .hbm, ⟨i, _⟩ => hbmTy i
  | _, _ => ⟨S4x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_call2_v0 : Ref sig .tc := ⟨.hbm, 41, rfl⟩
abbrev main_call2_cst : Ref sig .tc := ⟨.hbm, 42, rfl⟩
abbrev main_call2_c : Ref sig .tc := ⟨.hbm, 43, rfl⟩
abbrev main_call2_v1_0 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_c_5 : Ref sig .tc := ⟨.hbm, 50, rfl⟩
abbrev main_call3_v0 : Ref sig .tc := ⟨.hbm, 51, rfl⟩
abbrev main_call3_v1 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_10 : Ref sig .tc := ⟨.hbm, 69, rfl⟩
abbrev main_v39 : Ref sig .tc := ⟨.hbm, 70, rfl⟩
abbrev main_v40 : Ref sig .tc := ⟨.hbm, 71, rfl⟩
abbrev main_c_11 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_12 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_c_14 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_15 : Ref sig .tc := ⟨.hbm, 89, rfl⟩
abbrev main_v54 : Ref sig .tc := ⟨.hbm, 90, rfl⟩
abbrev main_c_16 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_18 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_19 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_20 : Ref sig .tc := ⟨.hbm, 112, rfl⟩
abbrev main_v72 : Ref sig .tc := ⟨.hbm, 113, rfl⟩
abbrev main_v73 : Ref sig .tc := ⟨.hbm, 114, rfl⟩
abbrev main_c_21 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_22 : Ref sig .tc := ⟨.hbm, 119, rfl⟩
abbrev main_v77 : Ref sig .tc := ⟨.hbm, 120, rfl⟩
abbrev main_v78 : Ref sig .tc := ⟨.hbm, 121, rfl⟩
abbrev main_c_23 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_24 : Ref sig .tc := ⟨.hbm, 126, rfl⟩
abbrev main_v82 : Ref sig .tc := ⟨.hbm, 127, rfl⟩
abbrev main_v83 : Ref sig .tc := ⟨.hbm, 128, rfl⟩
abbrev main_c_25 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_26 : Ref sig .tc := ⟨.hbm, 139, rfl⟩
abbrev main_v93 : Ref sig .tc := ⟨.hbm, 140, rfl⟩
abbrev main_v94 : Ref sig .tc := ⟨.hbm, 141, rfl⟩
abbrev main_cst_27 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_call4_v0 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call5_v0 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_28 : Ref sig .tc := ⟨.hbm, 167, rfl⟩
abbrev main_v117 : Ref sig .tc := ⟨.hbm, 168, rfl⟩
abbrev main_cst_29 : Ref sig .tc := ⟨.hbm, 169, rfl⟩
abbrev main_v118 : Ref sig .tc := ⟨.hbm, 170, rfl⟩
abbrev main_cst_30 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_31 : Ref sig .tc := ⟨.hbm, 181, rfl⟩
abbrev main_v128 : Ref sig .tc := ⟨.hbm, 182, rfl⟩
abbrev main_call6_v0 : Ref sig .tc := ⟨.hbm, 183, rfl⟩
abbrev main_call6_cst : Ref sig .tc := ⟨.hbm, 184, rfl⟩
abbrev main_call6_v1 : Ref sig .tc := ⟨.hbm, 185, rfl⟩
abbrev main_v129 : Ref sig .tc := ⟨.hbm, 186, rfl⟩
abbrev main_cst_32 : Ref sig .tc := ⟨.hbm, 187, rfl⟩
abbrev main_v130 : Ref sig .tc := ⟨.hbm, 188, rfl⟩
abbrev main_v131 : Ref sig .tc := ⟨.hbm, 189, rfl⟩
abbrev main_call7_v0 : Ref sig .tc := ⟨.hbm, 190, rfl⟩
abbrev main_call7_cst : Ref sig .tc := ⟨.hbm, 191, rfl⟩
abbrev main_call7_v1 : Ref sig .tc := ⟨.hbm, 192, rfl⟩
abbrev main_v132 : Ref sig .tc := ⟨.hbm, 193, rfl⟩
abbrev main_cst_33 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_34 : Ref sig .tc := ⟨.hbm, 199, rfl⟩
abbrev main_v137 : Ref sig .tc := ⟨.hbm, 200, rfl⟩
abbrev main_cst_35 : Ref sig .tc := ⟨.hbm, 201, rfl⟩
abbrev main_v138 : Ref sig .tc := ⟨.hbm, 202, rfl⟩
abbrev main_v139 : Ref sig .tc := ⟨.hbm, 203, rfl⟩
abbrev main_cst_36 : Ref sig .tc := ⟨.hbm, 204, rfl⟩
abbrev main_v140 : Ref sig .tc := ⟨.hbm, 205, rfl⟩
abbrev main_v141 : Ref sig .tc := ⟨.hbm, 206, rfl⟩
abbrev main_cst_37 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_38 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_cst_39 : Ref sig .tc := ⟨.hbm, 218, rfl⟩
abbrev main_v151 : Ref sig .tc := ⟨.hbm, 219, rfl⟩
abbrev main_v152 : Ref sig .tc := ⟨.hbm, 220, rfl⟩
abbrev main_cst_40 : Ref sig .tc := ⟨.hbm, 221, rfl⟩
abbrev main_v153 : Ref sig .tc := ⟨.hbm, 222, rfl⟩
abbrev main_cst_41 : Ref sig .tc := ⟨.hbm, 223, rfl⟩
abbrev main_v154 : Ref sig .tc := ⟨.hbm, 224, rfl⟩

abbrev nD : Nat := 1
abbrev τ : Topo := Topo.v7x

variable {F : FTy → Type} [FloatOps F]
-- ==== Proof.RefLine.lean ====
/- The reference program as one straight line of host operations, and its run. -/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead

@[expose] public section

set_option maxRecDepth 65536

noncomputable section

namespace Cert.RefSide

open Idealize.ShloMosaic Idealize.ShloMosaic.StableHlo Idealize.SL.Sem Cert.ReferenceIdeal

/-- A program made of two straight lines, one after the other, is the straight line of the two lists joined. -/
theorem isSeq_append {nD : Nat} {τ : Topo} {sig : RefSig} {Val : EltTy → Type} {Λ : Labels}
    {p k : Prog (TpuEff nD τ sig Val Λ .tc) PUnit} {l₁ l₂ : List (HloOp τ sig Val)}
    (hp : IsSeq p l₁) (hk : IsSeq k l₂) : IsSeq (p >>= fun _ => k) (l₁ ++ l₂) := by
  unfold IsSeq at *; rw [hp, hk, seq_append]

variable {F : FTy → Type} [FloatOps F] [Facts]

/-- One host operation alone is the straight line of that operation. -/
theorem isSeq_one {nD : Nat} {τ : Topo} {sig : RefSig} {Val : EltTy → Type} {Λ : Labels} {op : HloOp τ sig Val} :
    IsSeq (nD := nD) (Λ := Λ) (hlo rfl op fun _ => .ret (⟨⟩ : PUnit)) [op] := rfl

/-- The operations of the first part of the reference, with the proof that they are that part. -/
def part0 : { l : List (HloOp τ sig (Elt F)) // ∀ d, IsSeq (main_part0 (F := F) d) l } := by
  apply Subtype.mk
  · intro d
    unfold main_part0 fn_norm.body fn_norm_0.body fn_argmin.body fn_where.body
    simp only [bind_assoc, pure_bind]
    repeat (first | exact isSeq_one | apply IsSeq.cons)

/-- The operations of the second part. -/
def part1 : { l : List (HloOp τ sig (Elt F)) // ∀ d, IsSeq (main_part1 (F := F) d) l } := by
  apply Subtype.mk
  · intro d
    unfold main_part1
    repeat (first | exact isSeq_one | apply IsSeq.cons)

/-- The operations of the third part. -/
def part2 : { l : List (HloOp τ sig (Elt F)) // ∀ d, IsSeq (main_part2 (F := F) d) l } := by
  apply Subtype.mk
  · intro d
    unfold main_part2 fn_where_1.body fn_norm_2.body fn_norm_3.body
    simp only [bind_assoc, pure_bind]
    repeat (first | exact isSeq_one | apply IsSeq.cons)

/-- The operations of the last part. -/
def part3 : { l : List (HloOp τ sig (Elt F)) // ∀ d, IsSeq (main_part3 (F := F) d) l } := by
  apply Subtype.mk
  · intro d
    unfold main_part3
    repeat (first | exact IsSeq.nil | exact isSeq_one | apply IsSeq.cons)

/-- All operations of the reference, in order. -/
def ops : List (HloOp τ sig (Elt F)) := part0.1 ++ (part1.1 ++ (part2.1 ++ part3.1))

/-- The reference's program is the straight line of its operations. -/
theorem main_isSeq (d : Dev nD) : IsSeq (main (F := F) d) ops := by
  unfold main
  have h : IsSeq (main_part3 (F := F) d) part3.1 := part3.2 d
  exact isSeq_append (part0.2 d) (isSeq_append (part1.2 d) (isSeq_append (part2.2 d) h))

/-- The reference runs to the end, and every buffer then holds what the line of operations leaves in it. -/
theorem run (m : (ℓ : Loc nD τ sig) → Buf (Elt F) ℓ) (ρ : Dev nD → PrngReg) :
    θ_run (defs (F := F)) (onTc (τ := τ) main) ⟨m, fun _ => 0, ρ⟩ fun r =>
      (∀ (d : Dev nD) (b : Ref sig .tc), r.2.mem ((d.tc : Thread nD τ).loc b) = after ops (launchContents m d) (Proc.devRef .tc b)) := by
  refine run_hlo _ _ main_isSeq (by decide) (by decide) ?_ ?_ m ρ
  · unfold ops part0 part1 part2 part3; simp
  · unfold ops part0 part1 part2 part3
    intro _ h; (repeat (cases h with | head => rfl | tail _ h => ?_)); exact nomatch h

end Cert.RefSide

end
-- ==== Proof.Indexed.lean ====
/- The reference's three operations that read or write by index words — the arg-min over two, the row take and the scatter — at an index. -/
module

public import proofs.«01_k».proof.Defs
public import Idealize.ShloMosaic.Lib.Pointwise
public import Idealize.ShloMosaic.Lib.Routing.OpsSet

@[expose] public section

set_option maxRecDepth 65536

noncomputable section

namespace Cert.RefSide

open Idealize.ShloMosaic Cert.ReferenceIdeal Cert.ReferenceIdeal.Facts₀

variable [Facts]

/-- The scatter's update for point `(b, n)` lands at `(b', n', k)` exactly when the point's three words, read signed, are these numbers. -/
theorem scatter_lands (idx : IVec S4x4096x3 32) (b b' : Fin 4) (n n' : Fin 4096) (k : Fin 2) :
    scatter_S4x4096x2_S4x4096x3_S4x4096_n_012_012_2.resultIdx? (ix2 b n) idx = some (ix3 b' n' k)
      ↔ (idx (ix3 b n 0)).toInt = b'.val ∧ (idx (ix3 b n 1)).toInt = n'.val ∧ (idx (ix3 b n 2)).toInt = k.val := by
  set d := scatter_S4x4096x2_S4x4096x3_S4x4096_n_012_012_2 with hd
  rw [Routing.resultIdx?_eq_some]
  have hwin : ∀ a : Fin 3, d.window (ix2 b n) a = 0 := by
    intro a
    unfold ScatterDims.window
    rw [dif_neg]
    intro h
    have h' := of_decide_eq_true (List.mem_filter.1 h).2
    exact h' (by fin_cases a <;> simp [hd, scatter_S4x4096x2_S4x4096x3_S4x4096_n_012_012_2])
  have hm : ∀ a : Fin 3, a ∈ d.scatterDimsToOperandDims := by
    intro a
    fin_cases a <;> simp [hd, scatter_S4x4096x2_S4x4096x3_S4x4096_n_012_012_2]
  have hsi : ∀ a : Fin 3, d.siIdx (ix2 b n) ⟨d.scatterDimsToOperandDims.idxOf a, List.idxOf_lt_length_iff.2 (hm a)⟩ = ix3 b n a := by
    intro a
    funext p
    refine Fin.ext ?_
    fin_cases a <;> fin_cases p <;> rfl
  have hstart : ∀ a : Fin 3, d.start (ix2 b n) idx a = (idx (ix3 b n a)).toInt := by
    intro a
    unfold ScatterDims.start
    rw [dif_pos (hm a), hsi]
  simp only [hwin, Nat.cast_zero, add_zero]
  constructor
  · intro h
    exact ⟨(hstart 0).symm.trans (h 0), (hstart 1).symm.trans (h 1), (hstart 2).symm.trans (h 2)⟩
  · rintro ⟨h0, h1, h2⟩ a
    have : a = 0 ∨ a = 1 ∨ a = 2 := by fin_cases a <;> simp
    rcases this with rfl | rfl | rfl
    · exact (hstart 0).trans h0
    · exact (hstart 1).trans h1
    · exact (hstart 2).trans h2

/-- The row take read at a point: the entry of the row whose number the point's word is, kept between zero and one. -/
theorem take_at (x : FVec Ideal S2x2 .f32) (idx : IVec S4x4096x1 32) (b : Fin 4) (n : Fin 4096) (k : Fin 2) :
    Host.gather gather_S2x2_S4x4096x1_S4x4096x2_2_0_n_n_0_2_12 x idx (ix3 b n k)
      = x (ix2 ⟨min (idx (ix3 b n 0)).toInt.toNat 1, by omega⟩ k) := by
  set d := gather_S2x2_S4x4096x1_S4x4096x2_2_0_n_n_0_2_12 with hd
  unfold Host.gather
  refine congrArg x ?_
  funext a
  refine Fin.ext ?_
  show d.start (ix3 b n k) idx a + d.batchCoord (ix3 b n k) a + d.offCoord (ix3 b n k) a = _
  have hb : ∀ a : Fin 2, d.batchCoord (ix3 b n k) a = 0 := by
    intro a
    refine d.batchCoord_eq_zero _ _ ?_
    simp [hd, gather_S2x2_S4x4096x1_S4x4096x2_2_0_n_n_0_2_12]
  have hs : d.start (ix3 b n k) idx 0 = min (idx (ix3 b n 0)).toInt.toNat 1 := by
    unfold GatherDims.start
    have h0 : (0 : Fin 2) ∈ d.startIndexMap := List.mem_singleton.2 rfl
    rw [dif_pos h0]
    have hsi : d.siIdx (ix3 b n k) ⟨d.startIndexMap.idxOf 0, List.idxOf_lt_length_iff.2 h0⟩ = ix3 b n 0 := by
      funext p
      refine Fin.ext ?_
      fin_cases p <;> rfl
    rw [hsi]
    rfl
  have : a = 0 ∨ a = 1 := by fin_cases a <;> simp
  rcases this with rfl | rfl
  · rw [hs, hb]
    rfl
  · have h1 : d.start (ix3 b n k) idx 1 = 0 := by
      unfold GatherDims.start
      rw [dif_neg fun h => by simp [hd, gather_S2x2_S4x4096x1_S4x4096x2_2_0_n_n_0_2_12] at h]
    rw [h1, hb, Nat.zero_add]
    rfl

/-- The arg-min's body at two pairs: the pair of the smaller value, of equal values the one with the smaller word. -/
theorem argmin_body (p q : EReal × BitVec 32) :
    reducer_argmin_f32_i32 (F := Ideal) p q
      = (if p.1 < q.1 then p.1 else q.1, if p.1 < q.1 ∨ (p.1 = q.1 ∧ p.2.toInt < q.2.toInt) then p.2 else q.2) := by
  obtain ⟨a, w⟩ := p
  obtain ⟨a', w'⟩ := q
  unfold reducer_argmin_f32_i32
  have h1 : FloatOps.cmpf (F := Ideal) (φ := .f32) .olt a a' = BitVec.ofBool (decide (a < a')) := rfl
  have h2 : FloatOps.cmpf (F := Ideal) (φ := .f32) .une a a = BitVec.ofBool (decide (a ≠ a)) := rfl
  have h3 : FloatOps.cmpf (F := Ideal) (φ := .f32) .oeq a a' = BitVec.ofBool (decide (a = a')) := rfl
  have h4 : IntOp.cmpi .slt w w' = BitVec.ofBool (decide (w.toInt < w'.toInt)) := by
    simp [IntOp.cmpi, BitVec.slt]
  simp only [h1, h2, h3, h4]
  by_cases e1 : a < a' <;> by_cases e3 : a = a' <;> by_cases e4 : w.toInt < w'.toInt <;>
    simp [e1, e3, e4, Scalar.select, IntOp.ori, IntOp.andi]

/-- The positions that the arg-min reads at one point. -/
theorem argmin_drop (i : S4x4096x2.Idx) (b : Fin 4) (n : Fin 4096) :
    Shape.ReducesTo.drop reducesTo_S4x4096x2_S4x4096_d2 i = ix2 b n ↔ i = ix3 b n 0 ∨ i = ix3 b n 1 := by
  obtain ⟨b', n', k, rfl⟩ : ∃ (b' : Fin 4) (n' : Fin 4096) (k : Fin 2), i = ix3 b' n' k :=
    ⟨i 0, i 1, i 2, by funext a; fin_cases a <;> rfl⟩
  have h : Shape.ReducesTo.drop reducesTo_S4x4096x2_S4x4096_d2 (ix3 b' n' k) = ix2 b' n' := by
    funext a
    fin_cases a <;> rfl
  rw [h]
  constructor
  · intro e
    have e0 : b' = b := congrFun e 0
    have e1 : n' = n := congrFun e 1
    subst e0 e1
    have : k = 0 ∨ k = 1 := by fin_cases k <;> simp
    rcases this with rfl | rfl
    · exact Or.inl rfl
    · exact Or.inr rfl
  · rintro (e | e)
    · have e0 : b' = b := congrFun e 0
      have e1 : n' = n := congrFun e 1
      rw [e0, e1]
    · have e0 : b' = b := congrFun e 0
      have e1 : n' = n := congrFun e 1
      rw [e0, e1]

/-- A list without repetitions whose members are two different things is one of their two orders. -/
theorem two_members {α : Type} {l : List α} (hn : l.Nodup) {x y : α} (hxy : x ≠ y) (h : ∀ z, z ∈ l ↔ z = x ∨ z = y) :
    l = [x, y] ∨ l = [y, x] := by
  have hp : l.Perm [x, y] := by
    refine (List.perm_ext_iff_of_nodup hn (by simp [hxy])).2 fun z => ?_
    simp [h]
  have hl : l.length = 2 := hp.length_eq
  match l, hl with
  | [u, v], _ =>
    have hu := (h u).1 (by simp)
    have hv := (h v).1 (by simp)
    have huv : u ≠ v := by
      intro e
      simp [e] at hn
    rcases hu with rfl | rfl <;> rcases hv with rfl | rfl <;> simp_all

/-- The arg-min over the two distances of a point: one where the second is strictly smaller, else zero. -/
theorem argmin_at (X : FVec Ideal S4x4096x2 .f32) (b : Fin 4) (n : Fin 4096) :
    (Host.argReduce reducer_argmin_f32_i32 X (iotaInDim S4x4096x2 32 2) (constant S_ .f32 0x7F800000#32) (constantI S_ 32 0#32)
      reducesTo_S4x4096x2_S4x4096_d2 h_S_ (ix2 b n)).2 = if X (ix3 b n 1) < X (ix3 b n 0) then 1#32 else 0#32 := by
  rw [Ideal.argReduce_eq_reduce2]
  unfold Host.reduce2
  set pos := S4x4096x2.rowMajor with hpos
  have hl := two_members (l := (List.finRange S4x4096x2.numel).filter fun m =>
      Shape.ReducesTo.drop reducesTo_S4x4096x2_S4x4096_d2 (pos.symm m) = ix2 b n) ((List.nodup_finRange _).filter _)
    (x := pos (ix3 b n 0)) (y := pos (ix3 b n 1)) (by
      intro e
      have := congrFun (pos.injective e) 2
      exact absurd (show (0 : Fin 2) = 1 from this) (by decide)) (by
      intro z
      rw [List.mem_filter]
      simp only [List.mem_finRange, true_and, decide_eq_true_eq]
      rw [argmin_drop, Equiv.symm_apply_eq, Equiv.symm_apply_eq])
  have hi : constant (F := Ideal) S_ .f32 0x7F800000#32 (Shape.Idx.first h_S_) = (⊤ : EReal) := by
    show Ideal.ofBits .f32 0x7F800000#32 = ⊤
    simp [Ideal.ofBits, Ideal.ieee]
  have w0 : iotaInDim S4x4096x2 32 2 (ix3 b n 0) = 0#32 := rfl
  have w1 : iotaInDim S4x4096x2 32 2 (ix3 b n 1) = 1#32 := rfl
  have wi : constantI S_ 32 0#32 (Shape.Idx.first h_S_) = 0#32 := rfl
  have i0 : iotaInDim S4x4096x2 32 2 (pos.symm (pos (ix3 b n 0))) = 0#32 := by rw [Equiv.symm_apply_apply, w0]
  have i1 : iotaInDim S4x4096x2 32 2 (pos.symm (pos (ix3 b n 1))) = 1#32 := by rw [Equiv.symm_apply_apply, w1]
  have x0 : X (pos.symm (pos (ix3 b n 0))) = X (ix3 b n 0) := by rw [Equiv.symm_apply_apply]
  have x1 : X (pos.symm (pos (ix3 b n 1))) = X (ix3 b n 1) := by rw [Equiv.symm_apply_apply]
  generalize hu : X (ix3 b n 0) = u at *
  generalize hv : X (ix3 b n 1) = v at *
  have nt (a : EReal) : ¬ (⊤ : EReal) < a := not_top_lt
  rcases hl with hl | hl
  · rw [hl]
    simp only [List.foldl_cons, List.foldl_nil, argmin_body, hi, wi, i0, i1, x0, x1, nt, if_false, lt_irrefl, and_false, or_false]
    have t : (0#32).toInt < (1#32).toInt := by decide
    simp only [t, and_true, ite_self]
    by_cases h : v < u
    · rw [if_pos h, if_neg]
      rintro (h' | h')
      · exact absurd (lt_trans h h') (lt_irrefl _)
      · exact absurd h (h' ▸ lt_irrefl _)
    · rw [if_neg h, if_pos]
      exact lt_or_eq_of_le (not_lt.1 h)
  · rw [hl]
    simp only [List.foldl_cons, List.foldl_nil, argmin_body, hi, wi, i0, i1, x0, x1, nt, if_false]
    have t : (0#32).toInt < (1#32).toInt := by decide
    have t' : ¬ (1#32).toInt < (0#32).toInt := by decide
    simp only [t, and_true, false_or]
    by_cases ht : (⊤ : EReal) = v
    · have : ¬ v < u := ht ▸ not_top_lt
      simp [ht, this]
    · simp [ht, t']

end Cert.RefSide

end
-- ==== Proof.Spec.lean ====
/- The mathematics of one clustering step in plain formulas over the extended reals: what both programs compute. -/
module

public import Idealize.ShloMosaic.Lib.Pointwise

@[expose] public section

noncomputable section

namespace Cert.Spec

open Idealize.ShloMosaic

/-- The floor `1e-12` under which a vector's length is not divided by, as its binary32 pattern denotes it. -/
def tiny : EReal := Ideal.ofBits .f32 0x2B8CBCCC#32

/-- A vector divided by its Euclidean length (or by `tiny`, where it is shorter). -/
def unit (v : Fin 768 → EReal) (h : Fin 768) : EReal := Ideal.div (v h) (max (Ideal.sqrt (∑ i, v i * v i)) tiny)

/-- The distance `0.5 · (1 − cosine)` of two vectors. -/
def dist (u v : Fin 768 → EReal) : EReal := Ideal.ofBits .f32 0x3F000000#32 * (1 - ∑ h, unit u h * unit v h)

/-- The label of a point with the two distances `d`: `1` where the second centre is strictly nearer, else `0`. -/
def label (d : Fin 2 → Fin 4096 → EReal) (j : Fin 4096) : EReal := if d 1 j < d 0 j then 1 else 0

/-- The label as the 32-bit word that the programs return. -/
def labelWord (d : Fin 2 → Fin 4096 → EReal) (j : Fin 4096) : BitVec 32 := if d 1 j < d 0 j then 1#32 else 0#32

/-- The one-hot row of the label. -/
def hot (d : Fin 2 → Fin 4096 → EReal) (j : Fin 4096) (k : Fin 2) : EReal :=
  if k = 1 then label d j else 1 - label d j

/-- How many points have label `1`. -/
def count (d : Fin 2 → Fin 4096 → EReal) : ℕ := (Finset.univ.filter fun j => d 1 j < d 0 j).card

/-- The mean distance to the second centre over the points labelled `1`, with one added to their number. -/
def changedMean (d : Fin 2 → Fin 4096 → EReal) : EReal :=
  Ideal.div (∑ j, d 1 j * label d j) ((count d : ℝ) + 1 : ℝ)

/-- The mean distance to the first centre over the points labelled `0`, with one added to their number. -/
def unchangedMean (d : Fin 2 → Fin 4096 → EReal) : EReal :=
  Ideal.div (∑ j, d 0 j * (1 - label d j)) (4096 - (count d : ℝ) + 1 : ℝ)

/-- Whether a point is left out of the new centres: too far from the centre it is labelled with. -/
def far (d : Fin 2 → Fin 4096 → EReal) (n₁ n₂ : EReal) (j : Fin 4096) : Prop :=
  d 1 j * label d j > Ideal.div (changedMean d) n₁ ∨ d 0 j * (1 - label d j) > unchangedMean d * n₂

open Classical in
/-- The weight with which a point enters the new centre `k`: its one-hot entry, or zero where it is left out. -/
def weight (d : Fin 2 → Fin 4096 → EReal) (n₁ n₂ : EReal) (k : Fin 2) (j : Fin 4096) : EReal :=
  if far d n₁ n₂ j then 0 else hot d j k

/-- The new centre `k` of one sample: the weighted sum of its points, divided by the weights' sum plus one. -/
def centre (x : Fin 4096 → Fin 768 → EReal) (d : Fin 2 → Fin 4096 → EReal) (n₁ n₂ : EReal) (k : Fin 2) (h : Fin 768) : EReal :=
  Ideal.div (∑ j, x j h * weight d n₁ n₂ k j) ((∑ j, weight d n₁ n₂ k j) + 1)

/-- A point's confidence for centre `k`: one minus its distance scaled to the range of distances that its sample has. -/
def confidence (d : Fin 2 → Fin 4096 → EReal) (k : Fin 2) (j : Fin 4096) : EReal :=
  1 - Ideal.div (d k j - Finset.univ.fold min ⊤ (d k))
    (Finset.univ.fold max ⊥ (d k) - Finset.univ.fold min ⊤ (d k) + Ideal.ofBits .f32 0x33D6BF95#32)

/-- The cosine of the new centre `u` and the old one `v`, each length kept above `1e-8`. -/
def cosine (u v : Fin 768 → EReal) : EReal :=
  Ideal.div (∑ h, u h * v h)
    (max (Ideal.sqrt (∑ h, u h * u h)) (Ideal.ofBits .f32 0x322BCC77#32) * max (Ideal.sqrt (∑ h, v h * v h)) (Ideal.ofBits .f32 0x322BCC77#32))

end Cert.Spec

end
-- ==== Proof.Scalars.lean ====
/- Facts about single extended reals and words that both programs need: constants, truth values as numbers, counts. -/
module

public import proofs.«01_k».proof.Proof.Spec

@[expose] public section

noncomputable section

namespace Cert.Spec

open Idealize.ShloMosaic

/-- The pattern of `4096.0` denotes 4096. -/
theorem ofBits_4096 : Ideal.ofBits .f32 0x45800000#32 = ((4096 : ℝ) : EReal) := by
  simp [Ideal.ofBits, Ideal.ieee, -EReal.coe_mul]; norm_num

/-- The pattern of `4.0` denotes 4. -/
theorem ofBits_four : Ideal.ofBits .f32 0x40800000#32 = ((4 : ℝ) : EReal) := by
  simp [Ideal.ofBits, Ideal.ieee, -EReal.coe_mul]; norm_num

/-- The pattern of `0.25` denotes one quarter. -/
theorem ofBits_quarter : Ideal.ofBits .f32 0x3E800000#32 = ((1 / 4 : ℝ) : EReal) := by
  simp [Ideal.ofBits, Ideal.ieee, -EReal.coe_mul]; norm_num

/-- The pattern of plus infinity denotes the greatest extended real. -/
theorem ofBits_top : Ideal.ofBits .f32 0x7F800000#32 = ⊤ := by
  simp [Ideal.ofBits, Ideal.ieee]

/-- The pattern of minus infinity denotes the least extended real. -/
theorem ofBits_bot : Ideal.ofBits .f32 0xFF800000#32 = ⊥ := by
  simp [Ideal.ofBits, Ideal.ieee]

/-- A truth value widened to a word and made a number is one or zero. -/
theorem bit_value (p : Prop) [Decidable p] :
    FloatOps.sitofp (F := Ideal) .f32 (BitVec.setWidth 32 (BitVec.ofBool (decide p))) = if p then (1 : EReal) else 0 := by
  by_cases h : p
  · simp only [h, decide_true, if_true]
    show (((BitVec.setWidth 32 (BitVec.ofBool true)).toInt : ℝ) : EReal) = 1
    simp
  · simp only [h, decide_false, if_false]
    show (((BitVec.setWidth 32 (BitVec.ofBool false)).toInt : ℝ) : EReal) = 0
    simp

/-- The disjunction of two truth values as one-bit words. -/
theorem bit_or (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- A label is zero or one, and converted to a word it is the label's word. -/
theorem label_word (d : Fin 2 → Fin 4096 → EReal) (j : Fin 4096) : Ideal.fptosi 32 (label d j) = labelWord d j := by
  unfold label labelWord
  split
  · rw [show (1 : EReal) = ((1 : ℝ) : EReal) by norm_cast]
    show BitVec.ofInt 32 (max _ (min _ (if (0 : ℝ) ≤ 1 then ⌊(1 : ℝ)⌋ else ⌈(1 : ℝ)⌉))) = _
    norm_num
  · rw [show (0 : EReal) = ((0 : ℝ) : EReal) by norm_cast]
    show BitVec.ofInt 32 (max _ (min _ (if (0 : ℝ) ≤ 0 then ⌊(0 : ℝ)⌋ else ⌈(0 : ℝ)⌉))) = _
    norm_num

/-- The labels' sum is their count. -/
theorem sum_label (d : Fin 2 → Fin 4096 → EReal) : ∑ j, label d j = ((count d : ℝ) : EReal) := by
  unfold label count
  rw [Finset.sum_boole]; norm_cast

/-- One added to the labels' sum. -/
theorem sum_label_add_one (d : Fin 2 → Fin 4096 → EReal) : ∑ j, label d j + 1 = (((count d : ℝ) + 1 : ℝ) : EReal) := by
  rw [sum_label]; norm_cast

/-- One added to what the labels' sum leaves of 4096. -/
theorem rest_add_one (d : Fin 2 → Fin 4096 → EReal) :
    Ideal.ofBits .f32 0x45800000#32 - ∑ j, label d j + 1 = ((4096 - (count d : ℝ) + 1 : ℝ) : EReal) := by
  rw [sum_label, ofBits_4096]; norm_cast

/-- Four numbers added one after the other, each times one quarter, are the quarter of their sum. -/
theorem quarters (a : Fin 4 → EReal) :
    0 + a 0 * Ideal.ofBits .f32 0x3E800000#32 + a 1 * Ideal.ofBits .f32 0x3E800000#32 + a 2 * Ideal.ofBits .f32 0x3E800000#32
      + a 3 * Ideal.ofBits .f32 0x3E800000#32 = Ideal.div (∑ b, a b) (Ideal.ofBits .f32 0x40800000#32) := by
  have hq : (0 : EReal) ≤ ((1 / 4 : ℝ) : EReal) := by exact_mod_cast (by norm_num : (0 : ℝ) ≤ 1 / 4)
  have ht : ((1 / 4 : ℝ) : EReal) ≠ ⊤ := EReal.coe_ne_top _
  rw [ofBits_four, ofBits_quarter, Ideal.div_coe (by norm_num), zero_add, Fin.sum_univ_four,
    EReal.right_distrib_of_nonneg_of_ne_top hq ht, EReal.right_distrib_of_nonneg_of_ne_top hq ht,
    EReal.right_distrib_of_nonneg_of_ne_top hq ht]

open Classical in
/-- The weight as a product: the one-hot entry times one minus the truth value of being left out. -/
theorem weight_eq_mul (d : Fin 2 → Fin 4096 → EReal) (n₁ n₂ : EReal) (k : Fin 2) (j : Fin 4096) :
    hot d j k * (1 - if far d n₁ n₂ j then (1 : EReal) else 0) = weight d n₁ n₂ k j := by
  have h : (1 : EReal) - 1 = 0 := by
    rw [show (1 : EReal) = ((1 : ℝ) : EReal) by norm_cast, ← EReal.coe_sub, sub_self, EReal.coe_zero]
  unfold weight
  split <;> simp [h]

end Cert.Spec

end
-- ==== Proof.Step.lean ====
/- The whole clustering step over four samples: the seven results as plain formulas. -/
module

public import proofs.«01_k».proof.Proof.Spec

@[expose] public section

noncomputable section

namespace Cert.Spec

open Idealize.ShloMosaic

variable (x : Fin 4 → Fin 4096 → Fin 768 → EReal) (c : Fin 2 → Fin 768 → EReal) (n₁ n₂ : EReal)

/-- The distances of one sample's points from the centres. -/
def distances (b : Fin 4) (k : Fin 2) (j : Fin 4096) : EReal := dist (x b j) (c k)

/-- The new centres of one sample. -/
def centres (b : Fin 4) (k : Fin 2) (h : Fin 768) : EReal := centre (x b) (distances x c b) n₁ n₂ k h

/-- The new centres averaged over the four samples. -/
def meanCentres (k : Fin 2) (h : Fin 768) : EReal :=
  Ideal.div (∑ b, centres x c n₁ n₂ b k h) (Ideal.ofBits .f32 0x40800000#32)

/-- The cosines of the last sample's new centres with the old ones, summed and divided by the number of samples. -/
def lastCosine : EReal :=
  Ideal.div (∑ k, cosine (centres x c n₁ n₂ 3 k) (c k)) (Ideal.ofBits .f32 0x40800000#32)

end Cert.Spec

end
-- ==== Proof.RefA.lean ====
/- The first part of the reference, read at an index: distances, labels and the one-hot rows. -/
module

public import proofs.«01_k».proof.Proof.RefLine
public import proofs.«01_k».proof.Proof.Indexed
public import proofs.«01_k».proof.Proof.Scalars
public import proofs.«01_k».proof.Proof.Step
public import Idealize.ShloMosaic.Lib.StableHlo.ReadAt

@[expose] public section

set_option maxRecDepth 65536
set_option maxHeartbeats 4000000

noncomputable section

namespace Cert.RefSide

open Idealize.ShloMosaic Idealize.ShloMosaic.StableHlo Idealize.SL.Sem Cert.ReferenceIdeal Cert.ReferenceIdeal.Facts₀

variable [Facts] (V : Valuation τ sig (Elt Ideal))

/-- The points of sample `b`, row by row. -/
def feat (b : Fin 4) (j : Fin 4096) (h : Fin 768) : EReal :=
  shapeCast S4x768x4096 (V (Proc.devRef .tc main_arg0)) shapeCasts_S4x768x64x64_S4x768x4096 (ix3 b h j)

/-- The old centres, row by row. -/
def cens (k : Fin 2) (h : Fin 768) : EReal := V (Proc.devRef .tc main_arg1) (ix2 k h)

/-- The points as the reference transposes them. -/
theorem v7_at (b : Fin 4) (n : Fin 4096) (h : Fin 768) :
    after (part0.1.take 37) V (Proc.devRef .tc main_v7) (ix3 b n h) = feat V b n h := by
  unfold part0 feat
  after_reads_at

/-- The two-by-two identity. -/
theorem v6_at (i k : Fin 2) :
    after (part0.1.take 37) V (Proc.devRef .tc main_v6) (ix2 i k) = if i = k then (1 : EReal) else 0 := by
  have u1 : FloatOps.uitofp (F := Ideal) .f32 (1#1) = (1 : EReal) := by
    show (((1#1).toNat : ℝ) : EReal) = 1
    simp
  have u0 : FloatOps.uitofp (F := Ideal) .f32 (0#1) = (0 : EReal) := by
    show (((0#1).toNat : ℝ) : EReal) = 0
    simp
  unfold part0
  after_reads_at
  revert i k
  refine Fin.forall_fin_two.mpr ⟨?_, ?_⟩ <;> refine Fin.forall_fin_two.mpr ⟨?_, ?_⟩
  · exact u1
  · exact u0
  · exact u0
  · exact u1

/-- The distances. -/
theorem v23_at (b : Fin 4) (n : Fin 4096) (k : Fin 2) :
    after (part0.1.take 37) V (Proc.devRef .tc main_v23) (ix3 b n k) = Spec.distances (feat V) (cens V) b k n := by
  unfold part0 Spec.distances Spec.dist Spec.unit Spec.tiny feat cens
  after_reads_at

variable (d : Fin 4 → Fin 2 → Fin 4096 → EReal)

/-- The arg-min over the two centres is the label's word. -/
theorem v24_at (hd : ∀ b n k, V (Proc.devRef .tc main_v23) (ix3 b n k) = d b k n) (b : Fin 4) (n : Fin 4096) :
    after ((part0.1.drop 37).take 5) V (Proc.devRef .tc main_v24) (ix2 b n) = Spec.labelWord (d b) n := by
  unfold part0
  after_reads_simp
  refine (argmin_at (V (Proc.devRef .tc main_v23)) b n).trans ?_
  rw [hd, hd]
  rfl

/-- A label's word is zero or one. -/
theorem word_cases (e : Fin 2 → Fin 4096 → EReal) (n : Fin 4096) : Spec.labelWord e n = 0#32 ∨ Spec.labelWord e n = 1#32 := by
  unfold Spec.labelWord
  split
  · exact Or.inr rfl
  · exact Or.inl rfl

/-- The labels that the reference keeps are the same words. -/
theorem v27_at (h : ∀ b n, V (Proc.devRef .tc main_v24) (ix2 b n) = Spec.labelWord (d b) n) (b : Fin 4) (n : Fin 4096) :
    after (((part0.1.drop 37).drop 5).take 8) V (Proc.devRef .tc main_v27) (ix2 b n) = Spec.labelWord (d b) n := by
  unfold part0
  after_reads_at
  rw [h]
  rcases word_cases (d b) n with e | e <;> rw [e] <;> rfl

/-- The mean over a single distance is that distance. -/
theorem v38_at (hd : ∀ b n k, V (Proc.devRef .tc main_v23) (ix3 b n k) = d b k n) (b : Fin 4) (n : Fin 4096) (k : Fin 2) :
    after (((part0.1.drop 37).drop 5).drop 8) V (Proc.devRef .tc main_v38) (ix3 b n k) = d b k n := by
  have one (a : EReal) : Ideal.div a 1 = a := by
    rw [show (1 : EReal) = ((1 : ℝ) : EReal) by norm_cast, Ideal.div_coe one_ne_zero]
    simp
  revert k
  refine Fin.forall_fin_two.mpr ⟨?_, ?_⟩ <;> unfold part0 <;> after_reads_at <;> (try after_reads_at) <;>
    simp only [Finset.univ_unique, Finset.sum_singleton, one, hd]

/-- The rows of the identity that the labels pick are the one-hot rows. -/
theorem v45_at (h : ∀ b n, V (Proc.devRef .tc main_v27) (ix2 b n) = Spec.labelWord (d b) n)
    (h6 : ∀ i k : Fin 2, V (Proc.devRef .tc main_v6) (ix2 i k) = if i = k then (1 : EReal) else 0) (b : Fin 4) (n : Fin 4096) (k : Fin 2) :
    after (((part0.1.drop 37).drop 5).drop 8) V (Proc.devRef .tc main_v45) (ix3 b n k) = Spec.hot (d b) n k := by
  have z : (1 : EReal) - 1 = 0 := by
    rw [show (1 : EReal) = ((1 : ℝ) : EReal) by norm_cast, ← EReal.coe_sub, sub_self, EReal.coe_zero]
  unfold part0
  after_reads_simp
  rw [take_at]
  have e : ∀ (w : BitVec 32) (hw : min w.toInt.toNat 1 < 2), w = Spec.labelWord (d b) n →
      V (Proc.devRef .tc main_v6) (ix2 ⟨min w.toInt.toNat 1, hw⟩ k) = Spec.hot (d b) n k := by
    intro w hw e
    subst e
    rw [h6]
    unfold Spec.hot Spec.label Spec.labelWord
    revert k
    by_cases hl : d b 1 n < d b 0 n <;> refine Fin.forall_fin_two.mpr ⟨?_, ?_⟩ <;> simp [hl, z]
  refine e _ _ ?_
  pointwise []
  rw [h]
  rcases word_cases (d b) n with e | e <;> rw [e] <;> rfl

end Cert.RefSide

end
-- ==== Proof.RefB.lean ====
/- The second part of the reference, read at an index: masked distances, their means and the scatter's index words. -/
module

public import proofs.«01_k».proof.Proof.RefLine
public import proofs.«01_k».proof.Proof.Indexed
public import proofs.«01_k».proof.Proof.Scalars
public import proofs.«01_k».proof.Proof.Step
public import Idealize.ShloMosaic.Lib.StableHlo.ReadAt

@[expose] public section

set_option maxRecDepth 65536
set_option maxHeartbeats 4000000

noncomputable section

namespace Cert.RefSide

open Idealize.ShloMosaic Idealize.ShloMosaic.StableHlo Idealize.SL.Sem Cert.ReferenceIdeal Cert.ReferenceIdeal.Facts₀

variable [Facts] (V : Valuation τ sig (Elt Ideal)) (d : Fin 4 → Fin 2 → Fin 4096 → EReal)

/-- Words that are one on a set and zero off it sum to the set's number of members. -/
theorem fold_words {ι : Type} (w : ι → BitVec 32) (p : ι → Prop) [DecidablePred p] (hw : ∀ i, w i = if p i then 1#32 else 0#32)
    (S : Finset ι) : S.fold IntOp.addi (0#32) w = BitVec.ofNat 32 (S.filter p).card := by
  classical
  induction S using Finset.induction_on with
  | empty => rfl
  | insert a S ha ih =>
    rw [Finset.fold_insert ha, ih, hw, Finset.filter_insert]
    by_cases h : p a
    · rw [if_pos h, if_pos h, Finset.card_insert_of_notMem fun h' => ha (Finset.mem_filter.1 h').1]
      show 1#32 + BitVec.ofNat 32 _ = _
      rw [← BitVec.ofNat_add, Nat.add_comm]
    · rw [if_neg h, if_neg h]
      show 0#32 + BitVec.ofNat 32 _ = _
      rw [BitVec.zero_add]

/-- The number that the word of a count up to 4096, with one added, stands for. -/
theorem count_value (c : ℕ) (hc : c ≤ 4096) :
    FloatOps.sitofp (F := Ideal) .f32 (IntOp.addi (BitVec.ofNat 32 c) 1#32) = (((c : ℝ) + 1 : ℝ) : EReal) := by
  have h : IntOp.addi (BitVec.ofNat 32 c) 1#32 = BitVec.ofNat 32 (c + 1) := BitVec.ofNat_add c 1 |>.symm
  rw [h]
  show (((BitVec.ofNat 32 (c + 1)).toInt : ℝ) : EReal) = _
  have e : (BitVec.ofNat 32 (c + 1)).toInt = (c + 1 : ℕ) := by
    rw [BitVec.toInt_eq_toNat_cond, BitVec.toNat_ofNat, Nat.mod_eq_of_lt (by omega), if_pos (by omega)]
  rw [e]
  norm_cast

/-- How many of the 4096 points have label `0`. -/
theorem count_rest (e : Fin 2 → Fin 4096 → EReal) :
    ((Finset.univ.filter fun j => ¬ e 1 j < e 0 j).card : ℝ) = 4096 - (Spec.count e : ℝ) := by
  have h := Finset.card_filter_add_card_filter_not (s := (Finset.univ : Finset (Fin 4096))) (fun j => e 1 j < e 0 j)
  rw [Finset.card_univ, Fintype.card_fin] at h
  unfold Spec.count
  rw [eq_sub_iff_add_eq, add_comm]
  exact_mod_cast h

/-- At most all points have label `1`. -/
theorem count_le (e : Fin 2 → Fin 4096 → EReal) : Spec.count e ≤ 4096 := by
  unfold Spec.count
  exact (Finset.card_le_univ _).trans (by rw [Fintype.card_fin])

variable (h38 : ∀ b n k, V (Proc.devRef .tc main_v38) (ix3 b n k) = d b k n)
  (h45 : ∀ b n k, V (Proc.devRef .tc main_v45) (ix3 b n k) = Spec.hot (d b) n k)
  (h27 : ∀ b n, V (Proc.devRef .tc main_v27) (ix2 b n) = Spec.labelWord (d b) n)
  (h24 : ∀ b n, V (Proc.devRef .tc main_v24) (ix2 b n) = Spec.labelWord (d b) n)

include h38 h45 in
/-- The distances masked by the one-hot rows. -/
theorem v46_at (b : Fin 4) (n : Fin 4096) (k : Fin 2) :
    after part1.1 V (Proc.devRef .tc main_v46) (ix3 b n k) = d b k n * Spec.hot (d b) n k := by
  unfold part1
  after_reads_at
  rw [h38, h45]

include h38 h45 h27 in
/-- The mean distance to the second centre over the points labelled `1`. -/
theorem v61_at (b : Fin 4) :
    after part1.1 V (Proc.devRef .tc main_v61) (ix1 b) = Spec.changedMean (d b) := by
  unfold part1
  after_reads_at
  rw [fold_words (fun x => id (V (Proc.devRef .tc main_v27)) (ix2 b x)) (fun j => d b 1 j < d b 0 j) (fun j => h27 b j)]
  simp only [h38, h45]
  refine congrArg (Ideal.div _) (count_value _ (count_le (d b))) |>.trans ?_
  rfl

include h38 h45 h27 in
/-- The mean distance to the first centre over the points labelled `0`. -/
theorem v66_at (b : Fin 4) :
    after part1.1 V (Proc.devRef .tc main_v66) (ix1 b) = Spec.unchangedMean (d b) := by
  unfold part1
  after_reads_at
  rw [fold_words (fun x => id (subi _ (V (Proc.devRef .tc main_v27))) (ix2 b x)) (fun j => ¬ d b 1 j < d b 0 j) (fun j => by
    show IntOp.subi 1#32 (V (Proc.devRef .tc main_v27) (ix2 b j)) = _
    rw [h27]
    unfold Spec.labelWord
    by_cases h : d b 1 j < d b 0 j
    · rw [if_pos h, if_neg (not_not.2 h)]; rfl
    · rw [if_neg h, if_pos h]; rfl)]
  simp only [h38, h45]
  rw [count_value _ ((Finset.card_le_univ _).trans (by rw [Fintype.card_fin])), count_rest]
  rfl

/-- The array of zeros that the one-hot rows are set in. -/
theorem v67_at (b : Fin 4) (n : Fin 4096) (k : Fin 2) :
    after part1.1 V (Proc.devRef .tc main_v67) (ix3 b n k) = (0 : EReal) := by
  unfold part1
  after_reads_at

/-- The sample's number as the scatter's first index word. -/
theorem v89_at (b : Fin 4) (n : Fin 4096) :
    after part1.1 V (Proc.devRef .tc main_v89) (ix3 b n 0) = BitVec.ofNat 32 b := by
  unfold part1
  after_reads_at
  exact Routing.wrap_of_lt _ _ (by rw [BitVec.toNat_ofNat]; omega)

/-- The point's number as the scatter's second index word. -/
theorem v90_at (b : Fin 4) (n : Fin 4096) :
    after part1.1 V (Proc.devRef .tc main_v90) (ix3 b n 0) = BitVec.ofNat 32 n := by
  unfold part1
  after_reads_at
  exact Routing.wrap_of_lt _ _ (by rw [BitVec.toNat_ofNat]; omega)

include h24 in
/-- The label as the scatter's third index word. -/
theorem v91_at (b : Fin 4) (n : Fin 4096) :
    after part1.1 V (Proc.devRef .tc main_v91) (ix3 b n 0) = Spec.labelWord (d b) n := by
  unfold part1
  after_reads_at
  rw [h24]
  refine Routing.wrap_of_lt _ _ ?_
  unfold Spec.labelWord
  split <;> decide

end Cert.RefSide

end
-- ==== Proof.RefC.lean ====
/- The last two parts of the reference, read at an index: weights, new centres, confidences and the cosine result. -/
module

public import proofs.«01_k».proof.Proof.RefLine
public import proofs.«01_k».proof.Proof.Indexed
public import proofs.«01_k».proof.Proof.Scalars
public import proofs.«01_k».proof.Proof.Step
public import Idealize.ShloMosaic.Lib.StableHlo.ReadAt

@[expose] public section

set_option maxRecDepth 65536
set_option maxHeartbeats 4000000

noncomputable section

namespace Cert.RefSide

open Idealize.ShloMosaic Idealize.ShloMosaic.StableHlo Idealize.SL.Sem Cert.ReferenceIdeal Cert.ReferenceIdeal.Facts₀

variable [Facts] (V : Valuation τ sig (Elt Ideal)) (x : Fin 4 → Fin 4096 → Fin 768 → EReal) (c : Fin 2 → Fin 768 → EReal)
  (d : Fin 4 → Fin 2 → Fin 4096 → EReal) (n₁ n₂ : EReal)

/-- The three index words of the scatter, joined. -/
theorem v92_at (b : Fin 4) (n : Fin 4096) :
    after (part2.1.take 1) V (Proc.devRef .tc main_v92) (ix3 b n 0) = V (Proc.devRef .tc main_v89) (ix3 b n 0)
    ∧ after (part2.1.take 1) V (Proc.devRef .tc main_v92) (ix3 b n 1) = V (Proc.devRef .tc main_v90) (ix3 b n 0)
    ∧ after (part2.1.take 1) V (Proc.devRef .tc main_v92) (ix3 b n 2) = V (Proc.devRef .tc main_v91) (ix3 b n 0) := by
  unfold part2
  refine ⟨?_, ?_, ?_⟩
  · after_reads_at
    try after_reads_at
  · after_reads_at
    try after_reads_at
  · after_reads_at
    try after_reads_at

/-- Ones set at the places that the index words name make the one-hot rows. -/
theorem v94_at (h67 : ∀ b n k, V (Proc.devRef .tc main_v67) (ix3 b n k) = (0 : EReal))
    (h0 : ∀ (b : Fin 4) (n : Fin 4096), V (Proc.devRef .tc main_v92) (ix3 b n 0) = BitVec.ofNat 32 b)
    (h1 : ∀ (b : Fin 4) (n : Fin 4096), V (Proc.devRef .tc main_v92) (ix3 b n 1) = BitVec.ofNat 32 n)
    (h2 : ∀ (b : Fin 4) (n : Fin 4096), V (Proc.devRef .tc main_v92) (ix3 b n 2) = Spec.labelWord (d b) n)
    (b : Fin 4) (n : Fin 4096) (k : Fin 2) :
    after ((part2.1.drop 1).take 3) V (Proc.devRef .tc main_v94) (ix3 b n k) = Spec.hot (d b) n k := by
  have z : (1 : EReal) - 1 = 0 := by
    rw [show (1 : EReal) = ((1 : ℝ) : EReal) by norm_cast, ← EReal.coe_sub, sub_self, EReal.coe_zero]
  unfold part2
  after_reads_simp
  have i0 : ∀ b : Fin 4, (BitVec.ofNat 32 b.val).toInt = b.val := by decide
  have i1 (n : Fin 4096) : (BitVec.ofNat 32 n.val).toInt = n.val := by
    rw [BitVec.toInt_eq_toNat_cond, BitVec.toNat_ofNat, Nat.mod_eq_of_lt (by omega), if_pos (by omega)]
  have lands (b b' : Fin 4) (n n' : Fin 4096) (k : Fin 2) :
      scatter_S4x4096x2_S4x4096x3_S4x4096_n_012_012_2.resultIdx? (ix2 b n) (V (Proc.devRef .tc main_v92)) = some (ix3 b' n' k)
        ↔ b = b' ∧ n = n' ∧ (Spec.labelWord (d b) n).toInt = k.val := by
    rw [scatter_lands, h0, h1, h2, i0, i1]
    simp only [Nat.cast_inj, Fin.val_inj]
  by_cases hk : (Spec.labelWord (d b) n).toInt = k.val
  · refine (Routing.scatter_set_hit _ _ _ _ (ix3 b n k) (1 : EReal) ?_ (ix2 b n) ((lands b b n n k).2 ⟨rfl, rfl, hk⟩)).trans ?_
    · intro i _
      pointwise []
    · unfold Spec.hot Spec.label Spec.labelWord at *
      revert k
      by_cases hl : d b 1 n < d b 0 n <;> refine Fin.forall_fin_two.mpr ⟨?_, ?_⟩ <;> simp [hl]
  · refine (Routing.scatter_set_miss _ _ _ _ (ix3 b n k) ?_).trans ?_
    · intro i
      obtain ⟨b', n', rfl⟩ : ∃ (b' : Fin 4) (n' : Fin 4096), i = ix2 b' n' := ⟨i 0, i 1, by funext a; fin_cases a <;> rfl⟩
      intro hl
      obtain ⟨eb, en, hw⟩ := (lands b' b n' n k).1 hl
      subst eb en
      exact hk hw
    · rw [h67]
      unfold Spec.hot Spec.label Spec.labelWord at *
      revert k
      by_cases hl : d b 1 n < d b 0 n <;> refine Fin.forall_fin_two.mpr ⟨?_, ?_⟩ <;> simp [hl, z]

/-- The one-hot rows with the far points' rows set to zero are the weights. -/
theorem v111_at (h46 : ∀ b n k, V (Proc.devRef .tc main_v46) (ix3 b n k) = d b k n * Spec.hot (d b) n k)
    (h61 : ∀ b, V (Proc.devRef .tc main_v61) (ix1 b) = Spec.changedMean (d b))
    (h66 : ∀ b, V (Proc.devRef .tc main_v66) (ix1 b) = Spec.unchangedMean (d b))
    (h94 : ∀ b n k, V (Proc.devRef .tc main_v94) (ix3 b n k) = Spec.hot (d b) n k)
    (e₁ : FloatOps.sitofp (F := Ideal) .f32 (V (Proc.devRef .tc main_arg2) ix0 : BitVec 32) = n₁)
    (e₂ : FloatOps.sitofp (F := Ideal) .f32 (V (Proc.devRef .tc main_arg3) ix0 : BitVec 32) = n₂)
    (b : Fin 4) (n : Fin 4096) (k : Fin 2) :
    after (((part2.1.drop 1).drop 3).take 20) V (Proc.devRef .tc main_v111) (ix3 b n k) = Spec.weight (d b) n₁ n₂ k n := by
  unfold part2
  after_reads_at
  rw [e₁, e₂, h46, h46, h61, h66, h94]
  have t1 : Spec.hot (d b) n 1 = Spec.label (d b) n := if_pos rfl
  have t0 : Spec.hot (d b) n 0 = 1 - Spec.label (d b) n := if_neg (by decide)
  rw [t1, t0]
  unfold Spec.weight Spec.far
  simp only [gt_iff_lt]
  split_ifs <;> first | rfl | (exfalso; tauto)

/-- The new centres. -/
theorem v124_at (h7 : ∀ b n h, V (Proc.devRef .tc main_v7) (ix3 b n h) = x b n h)
    (h111 : ∀ b n k, V (Proc.devRef .tc main_v111) (ix3 b n k) = Spec.weight (d b) n₁ n₂ k n) (b : Fin 4) (k : Fin 2) (h : Fin 768) :
    after ((((part2.1.drop 1).drop 3).drop 20).take 16) V (Proc.devRef .tc main_v124) (ix3 b k h) = Spec.centre (x b) (d b) n₁ n₂ k h := by
  unfold part2 Spec.centre
  after_reads_at
  simp only [h7, h111]

variable (z : Fin 4 → Fin 2 → Fin 768 → EReal) (h124 : ∀ b k h, V (Proc.devRef .tc main_v124) (ix3 b k h) = z b k h)

include h124 in
/-- The cosines of the last sample's new centres with the old ones. -/
theorem v136_at (hc : ∀ k h, V (Proc.devRef .tc main_arg1) (ix2 k h) = c k h) (k : Fin 2) :
    after ((((part2.1.drop 1).drop 3).drop 20).drop 16) V (Proc.devRef .tc main_v136) (ix1 k) = Spec.cosine (z 3 k) (c k) := by
  unfold part2 Spec.cosine
  after_reads_at
  simp only [h124, hc]

include h124 in
/-- The new centres averaged over the samples. -/
theorem v139_at (k : Fin 2) (h : Fin 768) :
    after ((((part2.1.drop 1).drop 3).drop 20).drop 16) V (Proc.devRef .tc main_v139) (ix2 k h)
      = Ideal.div (∑ b, z b k h) (Ideal.ofBits .f32 0x40800000#32) := by
  unfold part2
  after_reads_at
  simp only [h124]

/-- The smallest distance of each sample from each centre. -/
theorem v140_at (h38 : ∀ b n k, V (Proc.devRef .tc main_v38) (ix3 b n k) = d b k n) (b : Fin 4) (k : Fin 2) :
    after ((((part2.1.drop 1).drop 3).drop 20).drop 16) V (Proc.devRef .tc main_v140) (ix2 b k) = Finset.univ.fold min ⊤ (d b k) := by
  unfold part2
  after_reads_at
  rw [Spec.ofBits_top]
  simp only [h38]

/-- The confidences. -/
theorem v152_at (h38 : ∀ b n k, V (Proc.devRef .tc main_v38) (ix3 b n k) = d b k n)
    (h140 : ∀ b k, V (Proc.devRef .tc main_v140) (ix2 b k) = Finset.univ.fold min ⊤ (d b k)) (b : Fin 4) (n : Fin 4096) (k : Fin 2) :
    after part3.1 V (Proc.devRef .tc main_v152) (ix3 b n k) = Spec.confidence (d b) k n := by
  unfold part3 Spec.confidence
  after_reads_at
  rw [Spec.ofBits_bot]
  simp only [h38, h140]

/-- The cosines' sum over four. -/
theorem v154_at (q : Fin 2 → EReal) (h136 : ∀ k, V (Proc.devRef .tc main_v136) (ix1 k) = q k) :
    after part3.1 V (Proc.devRef .tc main_v154) ix0 = Ideal.div (∑ k, q k) (Ideal.ofBits .f32 0x40800000#32) := by
  unfold part3
  after_reads_at
  simp only [h136]

end Cert.RefSide

end
-- ==== Proof.RefKeep.lean ====
/- What each stretch of the reference's operations leaves untouched. -/
module

public import proofs.«01_k».proof.Proof.RefLine
public import Idealize.ShloMosaic.Lib.StableHlo.ReadAt

@[expose] public section

set_option maxRecDepth 65536
set_option maxHeartbeats 4000000

noncomputable section

namespace Cert.RefSide

open Idealize.ShloMosaic Idealize.ShloMosaic.StableHlo Idealize.SL.Sem Cert.ReferenceIdeal

variable [Facts] (V : Valuation τ sig (Elt Ideal))

/-- Two valuations hold the same in a buffer. -/
def Same (V W : Valuation τ sig (Elt Ideal)) (r : Ref sig .tc) : Prop := V (Proc.devRef .tc r) = W (Proc.devRef .tc r)

/-- Untouched by the stretch of the distances. -/
theorem keep_a1 : ∀ r ∈ ([main_arg0, main_arg1, main_arg2, main_arg3] : List (Ref sig .tc)), Same (after (part0.1.take 37) V) V r := by
  unfold Same part0
  simp only [List.forall_mem_cons, List.not_mem_nil, false_imp_iff, implies_true, and_true]
  refine ⟨?_, ?_, ?_, ?_⟩ <;> after_reads_simp

/-- Untouched by the stretch of the arg-min. -/
theorem keep_a2 : ∀ r ∈ ([main_arg0, main_arg1, main_arg2, main_arg3, main_v6, main_v7, main_v23] : List (Ref sig .tc)), Same (after ((part0.1.drop 37).take 5) V) V r := by
  unfold Same part0
  simp only [List.forall_mem_cons, List.not_mem_nil, false_imp_iff, implies_true, and_true]
  refine ⟨?_, ?_, ?_, ?_, ?_, ?_, ?_⟩ <;> after_reads_simp

/-- Untouched by the stretch of the labels. -/
theorem keep_a3 : ∀ r ∈ ([main_arg0, main_arg1, main_arg2, main_arg3, main_v6, main_v7, main_v23, main_v24] : List (Ref sig .tc)), Same (after (((part0.1.drop 37).drop 5).take 8) V) V r := by
  unfold Same part0
  simp only [List.forall_mem_cons, List.not_mem_nil, false_imp_iff, implies_true, and_true]
  refine ⟨?_, ?_, ?_, ?_, ?_, ?_, ?_, ?_⟩ <;> after_reads_simp

/-- Untouched by the stretch of the one-hot rows. -/
theorem keep_a4 : ∀ r ∈ ([main_arg0, main_arg1, main_arg2, main_arg3, main_v7, main_v24, main_v27] : List (Ref sig .tc)), Same (after (((part0.1.drop 37).drop 5).drop 8) V) V r := by
  unfold Same part0
  simp only [List.forall_mem_cons, List.not_mem_nil, false_imp_iff, implies_true, and_true]
  refine ⟨?_, ?_, ?_, ?_, ?_, ?_, ?_⟩ <;> after_reads_simp

/-- Untouched by the stretch of the means. -/
theorem keep_b1 : ∀ r ∈ ([main_arg0, main_arg1, main_arg2, main_arg3, main_v7, main_v27, main_v38, main_v45] : List (Ref sig .tc)), Same (after (part1.1) V) V r := by
  unfold Same part1
  simp only [List.forall_mem_cons, List.not_mem_nil, false_imp_iff, implies_true, and_true]
  refine ⟨?_, ?_, ?_, ?_, ?_, ?_, ?_, ?_⟩ <;> after_reads_simp

/-- Untouched by the stretch of the index words. -/
theorem keep_c0 : ∀ r ∈ ([main_arg0, main_arg1, main_arg2, main_arg3, main_v7, main_v27, main_v38, main_v45, main_v46, main_v61, main_v66, main_v67] : List (Ref sig .tc)), Same (after (part2.1.take 1) V) V r := by
  unfold Same part2
  simp only [List.forall_mem_cons, List.not_mem_nil, false_imp_iff, implies_true, and_true]
  refine ⟨?_, ?_, ?_, ?_, ?_, ?_, ?_, ?_, ?_, ?_, ?_, ?_⟩ <;> after_reads_simp

/-- Untouched by the stretch of the scatter. -/
theorem keep_c1 : ∀ r ∈ ([main_arg0, main_arg1, main_arg2, main_arg3, main_v7, main_v27, main_v38, main_v45, main_v46, main_v61, main_v66] : List (Ref sig .tc)), Same (after ((part2.1.drop 1).take 3) V) V r := by
  unfold Same part2
  simp only [List.forall_mem_cons, List.not_mem_nil, false_imp_iff, implies_true, and_true]
  refine ⟨?_, ?_, ?_, ?_, ?_, ?_, ?_, ?_, ?_, ?_, ?_⟩ <;> after_reads_simp

/-- Untouched by the stretch of the weights. -/
theorem keep_c2 : ∀ r ∈ ([main_arg0, main_arg1, main_arg2, main_arg3, main_v7, main_v27, main_v38, main_v45] : List (Ref sig .tc)), Same (after (((part2.1.drop 1).drop 3).take 20) V) V r := by
  unfold Same part2
  simp only [List.forall_mem_cons, List.not_mem_nil, false_imp_iff, implies_true, and_true]
  refine ⟨?_, ?_, ?_, ?_, ?_, ?_, ?_, ?_⟩ <;> after_reads_simp

/-- Untouched by the stretch of the new centres. -/
theorem keep_c3 : ∀ r ∈ ([main_arg0, main_arg1, main_arg2, main_arg3, main_v27, main_v38, main_v45] : List (Ref sig .tc)), Same (after ((((part2.1.drop 1).drop 3).drop 20).take 16) V) V r := by
  unfold Same part2
  simp only [List.forall_mem_cons, List.not_mem_nil, false_imp_iff, implies_true, and_true]
  refine ⟨?_, ?_, ?_, ?_, ?_, ?_, ?_⟩ <;> after_reads_simp

/-- Untouched by the stretch of the means over the samples. -/
theorem keep_c4 : ∀ r ∈ ([main_arg0, main_arg1, main_arg2, main_arg3, main_v27, main_v38, main_v45] : List (Ref sig .tc)), Same (after ((((part2.1.drop 1).drop 3).drop 20).drop 16) V) V r := by
  unfold Same part2
  simp only [List.forall_mem_cons, List.not_mem_nil, false_imp_iff, implies_true, and_true]
  refine ⟨?_, ?_, ?_, ?_, ?_, ?_, ?_⟩ <;> after_reads_simp

/-- Untouched by the stretch of the confidences. -/
theorem keep_d1 : ∀ r ∈ ([main_arg0, main_arg1, main_arg2, main_arg3, main_v27, main_v38, main_v45, main_v139] : List (Ref sig .tc)), Same (after (part3.1) V) V r := by
  unfold Same part3
  simp only [List.forall_mem_cons, List.not_mem_nil, false_imp_iff, implies_true, and_true]
  refine ⟨?_, ?_, ?_, ?_, ?_, ?_, ?_, ?_⟩ <;> after_reads_simp

end Cert.RefSide

end
-- ==== Proof.RefRun.lean ====
/- What the reference leaves in its results, and that it leaves its arguments alone. -/
module

public import proofs.«01_k».proof.Proof.RefA
public import proofs.«01_k».proof.Proof.RefB
public import proofs.«01_k».proof.Proof.RefC
public import proofs.«01_k».proof.Proof.RefKeep

@[expose] public section

set_option maxRecDepth 65536
set_option maxHeartbeats 4000000

noncomputable section

namespace Cert.RefSide

open Idealize.ShloMosaic Idealize.ShloMosaic.StableHlo Idealize.SL.Sem Cert.ReferenceIdeal Cert.ReferenceIdeal.Facts₀

variable [Facts] (V : Valuation τ sig (Elt Ideal))

/-- A line of operations run up to a cut and then on from it. -/
theorem after_cut (n : ℕ) (l : List (HloOp τ sig (Elt Ideal))) : after l V = after (l.drop n) (after (l.take n) V) := by
  rw [← after_append, List.take_append_drop]

/-- The first factor as a number. -/
def fac1 : EReal := FloatOps.sitofp (F := Ideal) .f32 (V (Proc.devRef .tc main_arg2) ix0 : BitVec 32)

/-- The second factor as a number. -/
def fac2 : EReal := FloatOps.sitofp (F := Ideal) .f32 (V (Proc.devRef .tc main_arg3) ix0 : BitVec 32)

/-- What the reference leaves in its results. -/
structure Results (W : Valuation τ sig (Elt Ideal)) : Prop where
  args : ∀ r ∈ ([main_arg0, main_arg1, main_arg2, main_arg3] : List (Ref sig .tc)), Same W V r
  labels : ∀ b n, W (Proc.devRef .tc main_v27) (ix2 b n) = Spec.labelWord (Spec.distances (feat V) (cens V) b) n
  dists : ∀ b n k, W (Proc.devRef .tc main_v38) (ix3 b n k) = Spec.distances (feat V) (cens V) b k n
  onehot : ∀ b n k, W (Proc.devRef .tc main_v45) (ix3 b n k) = Spec.hot (Spec.distances (feat V) (cens V) b) n k
  means : ∀ k h, W (Proc.devRef .tc main_v139) (ix2 k h) = Spec.meanCentres (feat V) (cens V) (fac1 V) (fac2 V) k h
  conf : ∀ b n k, W (Proc.devRef .tc main_v152) (ix3 b n k) = Spec.confidence (Spec.distances (feat V) (cens V) b) k n
  cos : W (Proc.devRef .tc main_v154) ix0 = Spec.lastCosine (feat V) (cens V) (fac1 V) (fac2 V)

/-- The reference leaves these results. -/
theorem results : Results V (after ops V) := by
  have cut : after ops V = after part3.1 (after ((((part2.1.drop 1).drop 3).drop 20).drop 16) (after ((((part2.1.drop 1).drop 3).drop 20).take 16)
      (after (((part2.1.drop 1).drop 3).take 20) (after ((part2.1.drop 1).take 3) (after (part2.1.take 1) (after part1.1
        (after (((part0.1.drop 37).drop 5).drop 8) (after (((part0.1.drop 37).drop 5).take 8) (after ((part0.1.drop 37).take 5)
          (after (part0.1.take 37) V)))))))))) := by
    rw [← after_cut _ 8, ← after_cut _ 5, ← after_cut _ 37, ← after_cut _ 16, ← after_cut _ 20, ← after_cut _ 3, ← after_cut _ 1,
      ← after_append, ← after_append, ← after_append]
    rfl
  rw [cut]
  clear cut
  have f7 := v7_at V
  have f6 := v6_at V
  have f23 := v23_at V
  have k := keep_a1 V
  generalize after (part0.1.take 37) V = V1 at *
  simp only [Same, List.forall_mem_cons, List.not_mem_nil, false_imp_iff, implies_true, and_true] at k
  obtain ⟨farg0, farg1, farg2, farg3⟩ := k
  have f24 := v24_at V1 _ f23
  have k := keep_a2 V1
  generalize after ((part0.1.drop 37).take 5) V1 = V2 at *
  simp only [Same, List.forall_mem_cons, List.not_mem_nil, false_imp_iff, implies_true, and_true] at k
  obtain ⟨k0, k1, k2, k3, k4, k5, k6⟩ := k
  simp only [← k0, ← k1, ← k2, ← k3, ← k4, ← k5, ← k6] at farg0 farg1 farg2 farg3 f6 f7 f23
  clear k0 k1 k2 k3 k4 k5 k6
  have f27 := v27_at V2 _ f24
  have k := keep_a3 V2
  generalize after (((part0.1.drop 37).drop 5).take 8) V2 = V3 at *
  simp only [Same, List.forall_mem_cons, List.not_mem_nil, false_imp_iff, implies_true, and_true] at k
  obtain ⟨k0, k1, k2, k3, k4, k5, k6, k7⟩ := k
  simp only [← k0, ← k1, ← k2, ← k3, ← k4, ← k5, ← k6, ← k7] at farg0 farg1 farg2 farg3 f6 f7 f23 f24
  clear k0 k1 k2 k3 k4 k5 k6 k7
  have f38 := v38_at V3 _ f23
  have f45 := v45_at V3 _ f27 f6
  have k := keep_a4 V3
  generalize after (((part0.1.drop 37).drop 5).drop 8) V3 = V4 at *
  simp only [Same, List.forall_mem_cons, List.not_mem_nil, false_imp_iff, implies_true, and_true] at k
  obtain ⟨k0, k1, k2, k3, k4, k5, k6⟩ := k
  simp only [← k0, ← k1, ← k2, ← k3, ← k4, ← k5, ← k6] at farg0 farg1 farg2 farg3 f7 f24 f27
  clear k0 k1 k2 k3 k4 k5 k6
  have f46 := v46_at V4 _ f38 f45
  have f61 := v61_at V4 _ f38 f45 f27
  have f66 := v66_at V4 _ f38 f45 f27
  have f67 := v67_at V4
  have f89 := v89_at V4
  have f90 := v90_at V4
  have f91 := v91_at V4 _ f24
  have k := keep_b1 V4
  generalize after (part1.1) V4 = V5 at *
  simp only [Same, List.forall_mem_cons, List.not_mem_nil, false_imp_iff, implies_true, and_true] at k
  obtain ⟨k0, k1, k2, k3, k4, k5, k6, k7⟩ := k
  simp only [← k0, ← k1, ← k2, ← k3, ← k4, ← k5, ← k6, ← k7] at farg0 farg1 farg2 farg3 f7 f27 f38 f45
  clear k0 k1 k2 k3 k4 k5 k6 k7
  have f920 := fun b n => (v92_at V5 b n).1.trans (f89 b n)
  have f921 := fun b n => (v92_at V5 b n).2.1.trans (f90 b n)
  have f922 := fun b n => (v92_at V5 b n).2.2.trans (f91 b n)
  have k := keep_c0 V5
  generalize after (part2.1.take 1) V5 = V6 at *
  simp only [Same, List.forall_mem_cons, List.not_mem_nil, false_imp_iff, implies_true, and_true] at k
  obtain ⟨k0, k1, k2, k3, k4, k5, k6, k7, k8, k9, k10, k11⟩ := k
  simp only [← k0, ← k1, ← k2, ← k3, ← k4, ← k5, ← k6, ← k7, ← k8, ← k9, ← k10, ← k11] at farg0 farg1 farg2 farg3 f7 f27 f38 f45 f46 f61 f66 f67
  clear k0 k1 k2 k3 k4 k5 k6 k7 k8 k9 k10 k11
  have f94 := v94_at V6 _ f67 f920 f921 f922
  have k := keep_c1 V6
  generalize after ((part2.1.drop 1).take 3) V6 = V7 at *
  simp only [Same, List.forall_mem_cons, List.not_mem_nil, false_imp_iff, implies_true, and_true] at k
  obtain ⟨k0, k1, k2, k3, k4, k5, k6, k7, k8, k9, k10⟩ := k
  simp only [← k0, ← k1, ← k2, ← k3, ← k4, ← k5, ← k6, ← k7, ← k8, ← k9, ← k10] at farg0 farg1 farg2 farg3 f7 f27 f38 f45 f46 f61 f66
  clear k0 k1 k2 k3 k4 k5 k6 k7 k8 k9 k10
  have f111 := v111_at V7 _ (fac1 V) (fac2 V) f46 f61 f66 f94 (by rw [farg2]; rfl) (by rw [farg3]; rfl)
  have k := keep_c2 V7
  generalize after (((part2.1.drop 1).drop 3).take 20) V7 = V8 at *
  simp only [Same, List.forall_mem_cons, List.not_mem_nil, false_imp_iff, implies_true, and_true] at k
  obtain ⟨k0, k1, k2, k3, k4, k5, k6, k7⟩ := k
  simp only [← k0, ← k1, ← k2, ← k3, ← k4, ← k5, ← k6, ← k7] at farg0 farg1 farg2 farg3 f7 f27 f38 f45
  clear k0 k1 k2 k3 k4 k5 k6 k7
  have f124 := v124_at V8 _ _ _ _ f7 f111
  have k := keep_c3 V8
  generalize after ((((part2.1.drop 1).drop 3).drop 20).take 16) V8 = V9 at *
  simp only [Same, List.forall_mem_cons, List.not_mem_nil, false_imp_iff, implies_true, and_true] at k
  obtain ⟨k0, k1, k2, k3, k4, k5, k6⟩ := k
  simp only [← k0, ← k1, ← k2, ← k3, ← k4, ← k5, ← k6] at farg0 farg1 farg2 farg3 f27 f38 f45
  clear k0 k1 k2 k3 k4 k5 k6
  have f136 := v136_at V9 (cens V) _ f124 (fun k h => by rw [farg1]; rfl)
  have f139 := v139_at V9 _ f124
  have f140 := v140_at V9 _ f38
  have k := keep_c4 V9
  generalize after ((((part2.1.drop 1).drop 3).drop 20).drop 16) V9 = V10 at *
  simp only [Same, List.forall_mem_cons, List.not_mem_nil, false_imp_iff, implies_true, and_true] at k
  obtain ⟨k0, k1, k2, k3, k4, k5, k6⟩ := k
  simp only [← k0, ← k1, ← k2, ← k3, ← k4, ← k5, ← k6] at farg0 farg1 farg2 farg3 f27 f38 f45
  clear k0 k1 k2 k3 k4 k5 k6
  have f152 := v152_at V10 _ f38 f140
  have f154 := v154_at V10 _ f136
  have k := keep_d1 V10
  generalize after (part3.1) V10 = V11 at *
  simp only [Same, List.forall_mem_cons, List.not_mem_nil, false_imp_iff, implies_true, and_true] at k
  obtain ⟨k0, k1, k2, k3, k4, k5, k6, k7⟩ := k
  simp only [← k0, ← k1, ← k2, ← k3, ← k4, ← k5, ← k6, ← k7] at farg0 farg1 farg2 farg3 f27 f38 f45 f139
  clear k0 k1 k2 k3 k4 k5 k6 k7
  refine ⟨?_, f27, f38, f45, f139, f152, f154⟩
  simp only [Same, List.forall_mem_cons, List.not_mem_nil, false_imp_iff, implies_true, and_true]
  exact ⟨farg0, farg1, farg2, farg3⟩

end Cert.RefSide

end
-- ==== Proof.RefFinal.lean ====
/- The reference's run: its results as the plain formulas, its arguments as they were, and its frame. -/
module

public import proofs.«01_k».proof.Proof.RefRun
public import Idealize.ShloMosaic.Lib.Quiescent

@[expose] public section

set_option maxRecDepth 65536

noncomputable section

namespace Cert.RefSide

open Idealize.ShloMosaic Idealize.ShloMosaic.StableHlo Idealize.SL.Sem Cert.ReferenceIdeal

variable [Facts] (m : (ℓ : Loc nD τ sig) → Buf (Elt Ideal) ℓ)

/-- The reference runs to the end, and what its buffers then hold are its results over the buffers it started from. -/
theorem run_values (ρ : Dev nD → PrngReg) :
    θ_run (defs (F := Ideal)) (onTc (τ := τ) (main (F := Ideal))) ⟨m, fun _ => 0, ρ⟩ fun r => ∀ c : Dev nD,
      ∃ W : Valuation τ sig (Elt Ideal), Results (launchContents m c) W ∧ ∀ b : Ref sig .tc, r.2.mem ((c.tc : Thread nD τ).loc b) = W (Proc.devRef .tc b) :=
  θ_run_mono (run m ρ) fun _ hr c => ⟨after ops (launchContents m c), results (launchContents m c), hr c⟩

/-- What a run that ends in these results leaves in the arguments. -/
theorem Results.unchanged {c : Dev nD} {W : Valuation τ sig (Elt Ideal)} (h : Results (launchContents m c) W) :
    W (Proc.devRef .tc main_arg0) = m ((c.tc : Thread nD τ).loc main_arg0)
    ∧ W (Proc.devRef .tc main_arg1) = m ((c.tc : Thread nD τ).loc main_arg1)
    ∧ W (Proc.devRef .tc main_arg2) = m ((c.tc : Thread nD τ).loc main_arg2)
    ∧ W (Proc.devRef .tc main_arg3) = m ((c.tc : Thread nD τ).loc main_arg3) :=
  ⟨h.args _ (by simp), h.args _ (by simp), h.args _ (by simp), h.args _ (by simp)⟩

/-- The reference's frame: it runs to the end, its arguments are as they were and no counter is left over. -/
theorem frame (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 := by
  refine θ_run_mono (run_values m ρ) fun r hr => ⟨fun c => ?_, sem_eq_zero_of_no_sems (by decide) _⟩
  obtain ⟨W, hW, h⟩ := hr c
  rw [h, h, h, h]
  exact hW.unchanged

end Cert.RefSide

end
-- ==== Proof.Block.lean ====
/- What the kernel's body computes at one grid point, value by value: each equals the plain formula over one sample. -/
module

public import proofs.«01_k».proof.Proof.Scalars
public import proofs.«01_k».proof.Proof.Gen.KernelIdeal.Skeleton

@[expose] public section

set_option maxRecDepth 65536
set_option maxHeartbeats 4000000

noncomputable section

namespace Cert.KSide

open Idealize.ShloMosaic Cert.KernelIdeal Cert.KernelIdeal.Gen

/-- A block's points, row by row. -/
def pts (X : Vec Ideal S1x768x4096 .f32) (j : Fin 4096) (h : Fin 768) : EReal := X (ix3 0 h j)

/-- The centres, row by row. -/
def rows (C : Vec Ideal S2x768 .f32) (k : Fin 2) (h : Fin 768) : EReal := C (ix2 k h)

/-- The distances of a block's points from the centres. -/
def dists (X : Vec Ideal S1x768x4096 .f32) (C : Vec Ideal S2x768 .f32) (k : Fin 2) (j : Fin 4096) : EReal :=
  Spec.dist (pts X j) (rows C k)

variable (X : Vec Ideal S1x768x4096 .f32) (C : Vec Ideal S2x768 .f32)

/-- The body's distances are the specification's. -/
theorem dist_at (k : Fin 2) (j : Fin 4096) : k0_pay7 X C (ix2 k j) = dists X C k j := by
  pointwise [k0_pay7, k0_pay6, dists, pts, rows, Spec.dist, Spec.unit, Spec.tiny]
  simp only [mul_comm]

/-- The distances as the body stores them. -/
theorem dist_stored (k : Fin 2) (j : Fin 4096) : k0_pay3 (k0_pay7 X C) (ix3 0 k j) = dists X C k j := by
  rw [← dist_at]
  pointwise [k0_pay3]

/-- The confidences as the body stores them. -/
theorem confidence_at (k : Fin 2) (j : Fin 4096) : k0_pay4 (k0_pay7 X C) (ix3 0 k j) = Spec.confidence (dists X C) k j := by
  have h : ∀ d : FVec Ideal S2x4096 .f32, k0_pay4 d (ix3 0 k j) = Spec.confidence (fun k j => d (ix2 k j)) k j := by
    intro d
    pointwise [k0_pay4, Spec.confidence]
    rw [Spec.ofBits_top, Spec.ofBits_bot]
  rw [h]
  exact congrArg (fun d => Spec.confidence d k j) (funext₂ (dist_at X C))

/-- The body's labels as numbers. -/
theorem label_at (j : Fin 4096) : k0_pay10 X C (ix2 0 j) = Spec.label (dists X C) j := by
  have h : k0_pay10 X C (ix2 0 j) = Spec.label (fun k j => k0_pay7 X C (ix2 k j)) j := by
    pointwise [k0_pay10, k0_pay8, k0_pay9, Spec.label]
    exact Spec.bit_value _
  rw [h]
  exact congrArg (fun d => Spec.label d j) (funext₂ (dist_at X C))

/-- The labels as the body stores them. -/
theorem label_stored (j : Fin 4096) : k0_pay1 (k0_pay10 X C) (ix3 0 0 j) = Spec.labelWord (dists X C) j := by
  rw [← Spec.label_word, ← label_at]
  pointwise [k0_pay1]
  rfl

/-- The one-hot rows as the body stores them. -/
theorem hot_stored (k : Fin 2) (j : Fin 4096) : k0_pay2 (k0_pay10 X C) (ix3 0 k j) = Spec.hot (dists X C) j k := by
  revert k
  refine Fin.forall_fin_two.mpr ⟨?_, ?_⟩
  · unfold Spec.hot
    rw [← label_at]
    pointwise [k0_pay2]
  · unfold Spec.hot
    rw [← label_at]
    pointwise [k0_pay2]

/-- The distances to the second centre of the points labelled one. -/
theorem th1_at (j : Fin 4096) : k0_pay11 X C (ix2 0 j) = dists X C 1 j * Spec.label (dists X C) j := by
  rw [← dist_at, ← label_at]
  pointwise [k0_pay11, k0_pay9]

/-- The distances to the first centre of the points labelled zero. -/
theorem th0_at (j : Fin 4096) : k0_pay12 X C (ix2 0 j) = dists X C 0 j * (1 - Spec.label (dists X C) j) := by
  rw [← dist_at, ← label_at]
  pointwise [k0_pay12, k0_pay8]

/-- The labels' sum. -/
theorem labels_sum : k0_pay13 X C = ∑ j, Spec.label (dists X C) j := by
  simp only [← label_at]
  pointwise [k0_pay13]
  simp only [Finset.univ_unique, Finset.sum_singleton]

/-- The mean distance over the points labelled one. -/
theorem changed_at : k0_pay14 X C = Spec.changedMean (dists X C) := by
  unfold Spec.changedMean
  rw [← Spec.sum_label_add_one, ← labels_sum]
  simp only [← th1_at]
  pointwise [k0_pay14]
  simp only [Finset.univ_unique, Finset.sum_singleton]

open Classical in
/-- The new centres of one sample as the body computes them. -/
theorem centre_at (n₁ n₂ : EReal) (k : Fin 2) (h : Fin 768) :
    k0_pay15 (k0_pay6 X) (k0_pay10 X C) (k0_pay11 X C) (k0_pay12 X C) (k0_pay13 X C) (k0_pay14 X C) n₁ n₂ (ix2 k h)
      = Spec.centre (pts X) (dists X C) n₁ n₂ k h := by
  have hx : ∀ j, k0_pay6 X (ix2 h j) = pts X j h := by
    intro j
    pointwise [k0_pay6, pts]
  unfold Spec.centre
  simp only [← Spec.weight_eq_mul, Spec.far, Spec.unchangedMean, ← Spec.rest_add_one, ← labels_sum, ← changed_at, ← th1_at,
    ← th0_at, ← hx]
  revert k
  refine Fin.forall_fin_two.mpr ⟨?_, ?_⟩ <;>
  · pointwise [k0_pay15, Spec.hot]
    simp only [Spec.bit_or, Spec.bit_value, Finset.univ_unique, Finset.sum_singleton, ← label_at, gt_iff_lt]
    refine congrArg₂ Ideal.div (Finset.sum_congr rfl fun x _ => ?_) (congrArg (· + 1) (Finset.sum_congr rfl fun x _ => ?_))
    · rw [mul_comm]
    · congr!

/-- The accumulator's step at one element. -/
theorem acc_step (v1 : FVec Ideal S768x4096 .f32) (v28 v29 v32 : FVec Ideal S1x4096 .f32) (v36 v42 : Ideal .f32)
    (v50 v51 : Elt Ideal .f32) (v78 : FVec Ideal S2x768 .f32) (k : Fin 2) (h : Fin 768) :
    k0_pay17 v1 v28 v29 v32 v36 v42 v50 v51 v78 (ix2 k h)
      = v78 (ix2 k h) + k0_pay15 v1 v28 v29 v32 v36 v42 v50 v51 (ix2 k h) * Ideal.ofBits .f32 0x3E800000#32 := by
  pointwise [k0_pay17]

/-- The accumulator's first contents. -/
theorem acc_zero (k : Fin 2) (h : Fin 768) : k0_pay16 (F := Ideal) (ix2 k h) = 0 := by
  pointwise [k0_pay16]

/-- The mean cosine of new and old centres as the body stores it. -/
theorem cosine_at (u : FVec Ideal S2x768 .f32) (y : S1x1.Idx) :
    k0_pay5 C u y
      = Ideal.div (∑ k, Spec.cosine (fun h => u (ix2 k h)) (rows C k)) (Ideal.ofBits .f32 0x40800000#32) := by
  pointwise [k0_pay5, Spec.cosine, rows]

end Cert.KSide

end
-- ==== Proof.KernelArrays.lean ====
/- What the launch finds in its arguments, and the arrays that it leaves: the kernel's side in plain formulas. -/
module

public import proofs.«01_k».proof.Proof.Block
public import proofs.«01_k».proof.Proof.Step
public import proofs.«01_k».proof.Proof.Gen.KernelIdeal.Frame
public import Idealize.ShloMosaic.Lib.StableHlo.ReadAt
public import Idealize.ShloMosaic.Lib.Claim
public import Idealize.ShloMosaic.Lib.Pipeline.ValueKit

@[expose] public section

set_option maxRecDepth 65536

noncomputable section

namespace Cert.KSide

open Idealize.ShloMosaic Idealize.ShloMosaic.StableHlo Idealize.SL.Sem Cert.KernelIdeal Cert.KernelIdeal.Gen

variable (m : (ℓ : Loc nD τ sig) → Buf (Elt Ideal) ℓ) (c : Dev nD)

/-- Where each window's block lies at a grid point. -/
theorem idx : ∀ t : Fin grid0.N, win0_0.index t = ![0] ∧ win0_1.index t = ![t.val, 0, 0] ∧ win0_2.index t = ![0, 0] ∧ win0_4.index t = ![t.val, 0, 0]
    ∧ win0_5.index t = ![t.val, 0, 0] ∧ win0_6.index t = ![t.val, 0, 0] ∧ win0_7.index t = ![t.val, 0, 0] := by
  decide +kernel

/-- The points of sample `b` as the launch finds them, row by row. -/
def feat (b : Fin 4) (j : Fin 4096) (h : Fin 768) : EReal :=
  shapeCast S4x768x4096 (m ((c.tc : Thread nD τ).loc main_arg0)) shapeCasts_S4x768x64x64_S4x768x4096 (ix3 b h j)

set_option maxHeartbeats 4000000 in
/-- The block of points at a grid point is that sample's points. -/
theorem pts_blk (t : Fin cfg0.N) (j : Fin 4096) (h : Fin 768) : pts (iblk m c 1 t) j h = feat m c ⟨t.val, t.isLt⟩ j h := by
  have e : (V m c main_v0) = shapeCast S4x768x4096 (m ((c.tc : Thread nD τ).loc main_arg0)) shapeCasts_S4x768x64x64_S4x768x4096 := by
    unfold V V0
    show after hostOps0 _ _ = _
    unfold hostOps0
    after_reads_simp
    rfl
  unfold pts feat
  blk_simp [iblk]
  rw [e]
  blk_ext [idx t]

set_option maxHeartbeats 4000000 in
/-- The block of centres at any grid point is the old centres. -/
theorem rows_blk (t : Fin cfg0.N) (k : Fin 2) (h : Fin 768) : rows (iblk m c 2 t) k h = m ((c.tc : Thread nD τ).loc main_arg1) (ix2 k h) := by
  unfold rows
  blk_simp [iblk]
  rw [V_main_arg1]
  blk_ext [idx t]
/-- The old centres as the launch finds them. -/
def cens (k : Fin 2) (h : Fin 768) : EReal := m ((c.tc : Thread nD τ).loc main_arg1) (ix2 k h)

/-- The first factor as a number. -/
def fac1 : EReal := FloatOps.sitofp (F := Ideal) .f32 (m ((c.tc : Thread nD τ).loc main_arg2) ix0 : BitVec 32)

/-- The second factor as a number. -/
def fac2 : EReal := FloatOps.sitofp (F := Ideal) .f32 (m ((c.tc : Thread nD τ).loc main_arg3) ix0 : BitVec 32)

set_option maxHeartbeats 4000000 in
/-- The first number handed to the launch is the first factor. -/
theorem V_v4_0 : (V m c main_v4 (ix1 0) : EReal) = fac1 m c := by
  unfold V V0 fac1
  show after hostOps0 _ _ _ = _
  unfold hostOps0
  after_reads_at
  after_reads_at

set_option maxHeartbeats 4000000 in
/-- The second number handed to the launch is the second factor. -/
theorem V_v4_1 : (V m c main_v4 (ix1 1) : EReal) = fac2 m c := by
  unfold V V0 fac2
  show after hostOps0 _ _ _ = _
  unfold hostOps0
  after_reads_at
  after_reads_at

set_option maxHeartbeats 4000000 in
/-- The block of the two factors at any grid point is the whole of them. -/
theorem nums_blk (t : Fin cfg0.N) : iblk m c 0 t = V m c main_v4 := by
  funext y
  blk_simp [iblk]
  blk_ext [idx t]

/-- What the body loads as the first factor. -/
theorem n1_blk (t : Fin cfg0.N) (p) : (View.ld (iblk m c 0 t) (Rect.unit ![0] ![1] inb_S2_S1_0) (Shape.Idx.first p) : EReal) = fac1 m c := by
  rw [← V_v4_0, nums_blk]
  unfold View.ld
  refine congrArg (V m c main_v4) ?_
  funext a
  fin_cases a
  rfl

/-- What the body loads as the second factor. -/
theorem n2_blk (t : Fin cfg0.N) (p) : (View.ld (iblk m c 0 t) (Rect.unit ![1] ![1] inb_S2_S1_1) (Shape.Idx.first p) : EReal) = fac2 m c := by
  rw [← V_v4_1, nums_blk]
  unfold View.ld
  refine congrArg (V m c main_v4) ?_
  funext a
  fin_cases a
  rfl

/-- The body's distances at a grid point are that sample's distances. -/
theorem dists_blk (t : Fin cfg0.N) : dists (iblk m c 1 t) (iblk m c 2 t) = Spec.distances (feat m c) (cens m c) ⟨t.val, t.isLt⟩ := by
  funext k j
  unfold dists Spec.distances
  rw [show pts (iblk m c 1 t) j = feat m c ⟨t.val, t.isLt⟩ j from funext (pts_blk m c t j), show rows (iblk m c 2 t) k = cens m c k from funext (rows_blk m c t k)]

/-- The body's new centres at point `t`, with the factors as the body loads them. -/
def newCentres (t : Fin cfg0.N) : FVec Ideal S2x768 .f32 :=
  k0_pay15 (k0_pay6 (iblk m c 1 t)) (k0_pay10 (iblk m c 1 t) (iblk m c 2 t)) (k0_pay11 (iblk m c 1 t) (iblk m c 2 t))
    (k0_pay12 (iblk m c 1 t) (iblk m c 2 t)) (k0_pay13 (iblk m c 1 t) (iblk m c 2 t)) (k0_pay14 (iblk m c 1 t) (iblk m c 2 t))
    (fac1 m c) (fac2 m c)

/-- The body's new centres at a grid point are that sample's new centres. -/
theorem newCentres_at (t : Fin cfg0.N) (k : Fin 2) (h : Fin 768) :
    newCentres m c t (ix2 k h) = Spec.centres (feat m c) (cens m c) (fac1 m c) (fac2 m c) ⟨t.val, t.isLt⟩ k h := by
  unfold newCentres Spec.centres
  rw [centre_at, dists_blk, show pts (iblk m c 1 t) = feat m c ⟨t.val, t.isLt⟩ from funext₂ (pts_blk m c t)]

set_option maxHeartbeats 4000000 in
/-- What the body leaves, at any grid point, in the four windows that it writes once per sample. -/
theorem outs_tiled (t : Fin cfg0.N) : (outsAt0 m c t.val t.isLt).2.1 = k0_pay1 (k0_pay10 (iblk m c 1 t) (iblk m c 2 t))
    ∧ (outsAt0 m c t.val t.isLt).2.2.1 = k0_pay2 (k0_pay10 (iblk m c 1 t) (iblk m c 2 t))
    ∧ (outsAt0 m c t.val t.isLt).2.2.2.1 = k0_pay4 (k0_pay7 (iblk m c 1 t) (iblk m c 2 t))
    ∧ (outsAt0 m c t.val t.isLt).2.2.2.2.1 = k0_pay3 (k0_pay7 (iblk m c 1 t) (iblk m c 2 t)) := by
  have h4 : t.val < 4 := t.isLt
  rcases (by omega : (t.val % 4 = 0 ∧ ¬ t.val % 4 = 3) ∨ (¬ t.val % 4 = 0 ∧ ¬ t.val % 4 = 3) ∨ (¬ t.val % 4 = 0 ∧ t.val % 4 = 3)) with ⟨h0, h1⟩ | ⟨h0, h1⟩ | ⟨h0, h1⟩
  · rw [outsAt0_A m c t h0 h1]
    refine ⟨?_, ?_, ?_, ?_⟩ <;> frame_out
  · rw [outsAt0_B m c t h0 h1]
    refine ⟨?_, ?_, ?_, ?_⟩ <;> frame_out
  · rw [outsAt0_C m c t h0 h1]
    refine ⟨?_, ?_, ?_, ?_⟩ <;> frame_out

/-- The sample that a grid point works on. -/
def smp (t : Fin cfg0.N) : Fin 4 := ⟨t.val, t.isLt⟩

/-- The labels' array as the launch leaves it. -/
def labelArr (i : S4x1x4096.Idx) : BitVec 32 := Spec.labelWord (Spec.distances (feat m c) (cens m c) (i 0)) (i 2)

/-- The one-hot array as the launch leaves it. -/
def hotArr (i : S4x2x4096.Idx) : EReal := Spec.hot (Spec.distances (feat m c) (cens m c) (i 0)) (i 2) (i 1)

/-- The confidences' array as the launch leaves it. -/
def confArr (i : S4x2x4096.Idx) : EReal := Spec.confidence (Spec.distances (feat m c) (cens m c) (i 0)) (i 1) (i 2)

/-- The distances' array as the launch leaves it. -/
def distArr (i : S4x2x4096.Idx) : EReal := Spec.distances (feat m c) (cens m c) (i 0) (i 1) (i 2)

set_option maxHeartbeats 4000000 in
/-- The labels' array after the launch. -/
theorem arr4 : (dats m 0 c).arrAt 4 (cfgs 0).N = labelArr m c := by
  refine (dats m 0 c).arrAt_eq_of_covers 4 _ (by decide +kernel) fun t hf y => ?_
  blk_simp
  rw [after0_4, (outs_tiled m c t).1]
  idx_vars y
  obtain rfl : y0 = 0 := Subsingleton.elim _ _
  obtain rfl : y1 = 0 := Subsingleton.elim _ _
  rw [show ((View.whole main_v5_1).slice (win0_4.rect t)).emb (ix3 0 0 y2) = ix3 (smp t) 0 y2 from by unfold smp; blk_ext [idx t],
    label_stored, dists_blk]
  rfl

set_option maxHeartbeats 4000000 in
/-- The one-hot array after the launch. -/
theorem arr5 : (dats m 0 c).arrAt 5 (cfgs 0).N = hotArr m c := by
  refine (dats m 0 c).arrAt_eq_of_covers 5 _ (by decide +kernel) fun t hf y => ?_
  blk_simp
  rw [after0_5, (outs_tiled m c t).2.1]
  idx_vars y
  obtain rfl : y0 = 0 := Subsingleton.elim _ _
  rw [show ((View.whole main_v5_2).slice (win0_5.rect t)).emb (ix3 0 y1 y2) = ix3 (smp t) y1 y2 from by unfold smp; blk_ext [idx t],
    hot_stored, dists_blk]
  rfl

set_option maxHeartbeats 4000000 in
/-- The confidences' array after the launch. -/
theorem arr6 : (dats m 0 c).arrAt 6 (cfgs 0).N = confArr m c := by
  refine (dats m 0 c).arrAt_eq_of_covers 6 _ (by decide +kernel) fun t hf y => ?_
  blk_simp
  rw [after0_6, (outs_tiled m c t).2.2.1]
  idx_vars y
  obtain rfl : y0 = 0 := Subsingleton.elim _ _
  rw [show ((View.whole main_v5_3).slice (win0_6.rect t)).emb (ix3 0 y1 y2) = ix3 (smp t) y1 y2 from by unfold smp; blk_ext [idx t],
    confidence_at, dists_blk]
  rfl

set_option maxHeartbeats 4000000 in
/-- The distances' array after the launch. -/
theorem arr7 : (dats m 0 c).arrAt 7 (cfgs 0).N = distArr m c := by
  refine (dats m 0 c).arrAt_eq_of_covers 7 _ (by decide +kernel) fun t hf y => ?_
  blk_simp
  rw [after0_7, (outs_tiled m c t).2.2.2]
  idx_vars y
  obtain rfl : y0 = 0 := Subsingleton.elim _ _
  rw [show ((View.whole main_v5_4).slice (win0_7.rect t)).emb (ix3 0 y1 y2) = ix3 (smp t) y1 y2 from by unfold smp; blk_ext [idx t],
    dist_stored, dists_blk]
  rfl

set_option maxHeartbeats 4000000 in
/-- After the first grid point the accumulator holds a quarter of the first sample's new centres. -/
theorem acc_first (k : Fin 2) (h : Fin 768) : (outsAt0 m c t0_0.val t0_0.isLt).1 (ix2 k h) = 0 + newCentres m c t0_0 (ix2 k h) * Ideal.ofBits .f32 0x3E800000#32 := by
  rw [outsAt0_A m c t0_0 (by decide) (by decide)]
  frame_out
  rw [acc_step, acc_zero, n1_blk, n2_blk]
  rfl

set_option maxHeartbeats 4000000 in
/-- Every later grid point adds a quarter of its sample's new centres. -/
theorem acc_next (t : Fin cfg0.N) (h0 : ¬ t.val % 4 = 0) (k : Fin 2) (h : Fin 768) :
    (outsAt0 m c t.val t.isLt).1 (ix2 k h)
      = (outsAt0 m c (t.val - 1) (Nat.lt_of_le_of_lt (Nat.sub_le _ _) t.isLt)).1 (ix2 k h) + newCentres m c t (ix2 k h) * Ideal.ofBits .f32 0x3E800000#32 := by
  by_cases h1 : t.val % 4 = 3
  · rw [outsAt0_C m c t h0 h1]
    frame_out
    rw [acc_step, n1_blk, n2_blk]
    rfl
  · rw [outsAt0_B m c t h0 h1]
    frame_out
    rw [acc_step, n1_blk, n2_blk]
    rfl

set_option maxHeartbeats 4000000 in
/-- After the last grid point the accumulator holds the mean of the new centres. -/
theorem acc_last (k : Fin 2) (h : Fin 768) : (outsAt0 m c t0_3.val t0_3.isLt).1 (ix2 k h)
    = Spec.meanCentres (feat m c) (cens m c) (fac1 m c) (fac2 m c) k h := by
  rw [acc_next m c t0_3 (by decide)]
  show (outsAt0 m c t0_2.val t0_2.isLt).1 (ix2 k h) + _ = _
  rw [acc_next m c t0_2 (by decide)]
  show (outsAt0 m c t0_1.val t0_1.isLt).1 (ix2 k h) + _ + _ = _
  rw [acc_next m c t0_1 (by decide)]
  show (outsAt0 m c t0_0.val t0_0.isLt).1 (ix2 k h) + _ + _ + _ = _
  rw [acc_first]
  simp only [newCentres_at]
  exact Spec.quarters fun b => Spec.centres (feat m c) (cens m c) (fac1 m c) (fac2 m c) b k h

set_option maxHeartbeats 4000000 in
/-- The new centres' array after the launch. -/
theorem arr3 : (dats m 0 c).arrAt 3 (cfgs 0).N = fun i : S2x768.Idx => Spec.meanCentres (feat m c) (cens m c) (fac1 m c) (fac2 m c) (i 0) (i 1) := by
  refine (dats m 0 c).arrAt_eq_of_after_last 3 t0_3 (by decide +kernel) _ fun j => ?_
  blk_simp
  rw [after0_3]
  idx_vars j
  exact acc_last m c j0 j1

set_option maxHeartbeats 4000000 in
/-- What the last grid point leaves as the cosine result. -/
theorem cini_last (y : S1x1.Idx) : (outsAt0 m c t0_3.val t0_3.isLt).2.2.2.2.2 y = Spec.lastCosine (feat m c) (cens m c) (fac1 m c) (fac2 m c) := by
  rw [outsAt0_C m c t0_3 (by decide) (by decide)]
  frame_out
  rw [cosine_at, n1_blk, n2_blk]
  unfold Spec.lastCosine
  refine congrArg (fun s => Ideal.div s _) (Finset.sum_congr rfl fun k _ => ?_)
  exact congrArg₂ Spec.cosine (funext fun h => newCentres_at m c t0_3 k h) (funext (rows_blk m c t0_3 k))

set_option maxHeartbeats 4000000 in
/-- The cosine result's array after the launch. -/
theorem arr8 : (dats m 0 c).arrAt 8 (cfgs 0).N = fun i : S1x1.Idx => Spec.lastCosine (feat m c) (cens m c) (fac1 m c) (fac2 m c) := by
  refine (dats m 0 c).arrAt_eq_of_after_last 8 t0_3 (by decide +kernel) _ fun j => ?_
  blk_simp
  rw [after0_8]
  exact cini_last m c j

end Cert.KSide

end
-- ==== Proof.KernelTail.lean ====
/- The reshapes and transposes after the launch: each result entry is an entry of an array that the launch leaves. -/
module

public import proofs.«01_k».proof.Proof.Gen.KernelIdeal.Frame
public import Idealize.ShloMosaic.Lib.Pointwise
public import Idealize.ShloMosaic.Lib.StableHlo.ReadAt

@[expose] public section

set_option maxRecDepth 65536
set_option maxHeartbeats 4000000

noncomputable section

namespace Cert.KSide

open Idealize.ShloMosaic Idealize.ShloMosaic.StableHlo Idealize.SL.Sem Cert.KernelIdeal Cert.KernelIdeal.Gen

variable (m : (ℓ : Loc nD τ sig) → Buf (Elt Ideal) ℓ) (c : Dev nD)

/-- What the buffers hold right after the launch. -/
def left : Valuation τ sig (Elt Ideal) :=
  Pipeline.withArrays (cfgs 0).spec c (V0 m c) fun w => (dats m 0 c).arrAt w (cfgs 0).N

/-- An array of the launch right after it. -/
theorem left_arr (w : Fin (cfgs 0).W) : left m c (Proc.devRef .tc (Pipeline.arrRef (cfgs 0).spec w)) = (dats m 0 c).arrAt w (cfgs 0).N :=
  Pipeline.withArrays_arr (cfgs 0).spec (by decide) c (V0 m c) _ w

/-- The labels' result. -/
theorem tail_v6 (b : Fin 4) (n : Fin 4096) :
    Pipeline.afterTail₀ cfgs (dats m) 0 (V0 m) [hostOps1] c main_v6 (ix2 b n) = left m c (Proc.devRef .tc main_v5_1) (ix3 b 0 n) := by
  show after hostOps1 (left m c) (Proc.devRef .tc main_v6) (ix2 b n) = _
  generalize left m c = W
  unfold hostOps1
  after_reads_at

/-- The one-hot result. -/
theorem tail_v7 (b : Fin 4) (n : Fin 4096) (k : Fin 2) :
    Pipeline.afterTail₀ cfgs (dats m) 0 (V0 m) [hostOps1] c main_v7 (ix3 b n k) = left m c (Proc.devRef .tc main_v5_2) (ix3 b k n) := by
  show after hostOps1 (left m c) (Proc.devRef .tc main_v7) (ix3 b n k) = _
  generalize left m c = W
  unfold hostOps1
  after_reads_at

/-- The confidences' result. -/
theorem tail_v8 (b : Fin 4) (n : Fin 4096) (k : Fin 2) :
    Pipeline.afterTail₀ cfgs (dats m) 0 (V0 m) [hostOps1] c main_v8 (ix3 b n k) = left m c (Proc.devRef .tc main_v5_3) (ix3 b k n) := by
  show after hostOps1 (left m c) (Proc.devRef .tc main_v8) (ix3 b n k) = _
  generalize left m c = W
  unfold hostOps1
  after_reads_at

/-- The distances' result. -/
theorem tail_v9 (b : Fin 4) (n : Fin 4096) (k : Fin 2) :
    Pipeline.afterTail₀ cfgs (dats m) 0 (V0 m) [hostOps1] c main_v9 (ix3 b n k) = left m c (Proc.devRef .tc main_v5_4) (ix3 b k n) := by
  show after hostOps1 (left m c) (Proc.devRef .tc main_v9) (ix3 b n k) = _
  generalize left m c = W
  unfold hostOps1
  after_reads_at

/-- The cosine result. -/
theorem tail_v10 :
    Pipeline.afterTail₀ cfgs (dats m) 0 (V0 m) [hostOps1] c main_v10 ix0 = left m c (Proc.devRef .tc main_v5_5) (ix2 0 0) := by
  show after hostOps1 (left m c) (Proc.devRef .tc main_v10) ix0 = _
  generalize left m c = W
  unfold hostOps1
  after_reads_at

/-- The kernel runs to the end; its results are entries of the launch's arrays, and its arguments are as they were. -/
theorem run_reads (ρ : Dev nD → PrngReg) :
    θ_run (defs (F := Ideal)) (onTc (τ := τ) (main (F := Ideal))) ⟨m, fun _ => 0, ρ⟩ fun r => ∀ c : Dev nD,
      r.2.mem ((c.tc : Thread nD τ).loc main_v5_0) = (dats m 0 c).arrAt 3 (cfgs 0).N
      ∧ (∀ b n, r.2.mem ((c.tc : Thread nD τ).loc main_v6) (ix2 b n) = (dats m 0 c).arrAt 4 (cfgs 0).N (ix3 b 0 n))
      ∧ (∀ b n k, r.2.mem ((c.tc : Thread nD τ).loc main_v7) (ix3 b n k) = (dats m 0 c).arrAt 5 (cfgs 0).N (ix3 b k n))
      ∧ (∀ b n k, r.2.mem ((c.tc : Thread nD τ).loc main_v8) (ix3 b n k) = (dats m 0 c).arrAt 6 (cfgs 0).N (ix3 b k n))
      ∧ (∀ b n k, r.2.mem ((c.tc : Thread nD τ).loc main_v9) (ix3 b n k) = (dats m 0 c).arrAt 7 (cfgs 0).N (ix3 b k n))
      ∧ r.2.mem ((c.tc : Thread nD τ).loc main_v10) ix0 = (dats m 0 c).arrAt 8 (cfgs 0).N (ix2 0 0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (θ_run_and (run_main m ρ) (unchanged m ρ)) fun r hr c => ?_
  obtain ⟨hA, hB⟩ := hr.1 c
  refine ⟨hA 3, fun b n => ?_, fun b n k => ?_, fun b n k => ?_, fun b n k => ?_, ?_, hr.2 c⟩
  · exact (congrFun (hB main_v6 (by decide)) _).trans ((tail_v6 m c b n).trans (congrFun (left_arr m c 4) _))
  · exact (congrFun (hB main_v7 (by decide)) _).trans ((tail_v7 m c b n k).trans (congrFun (left_arr m c 5) _))
  · exact (congrFun (hB main_v8 (by decide)) _).trans ((tail_v8 m c b n k).trans (congrFun (left_arr m c 6) _))
  · exact (congrFun (hB main_v9 (by decide)) _).trans ((tail_v9 m c b n k).trans (congrFun (left_arr m c 7) _))
  · exact (congrFun (hB main_v10 (by decide)) _).trans ((tail_v10 m c).trans (congrFun (left_arr m c 8) _))

end Cert.KSide

end
-- ==== Proof.KernelRun.lean ====
/- The kernel's results as the plain formulas. -/
module

public import proofs.«01_k».proof.Proof.KernelArrays
public import proofs.«01_k».proof.Proof.KernelTail

@[expose] public section

set_option maxRecDepth 65536

noncomputable section

namespace Cert.KSide

open Idealize.ShloMosaic Idealize.ShloMosaic.StableHlo Idealize.SL.Sem Cert.KernelIdeal Cert.KernelIdeal.Gen

variable (m : (ℓ : Loc nD τ sig) → Buf (Elt Ideal) ℓ)

/-- The kernel runs to the end, leaves the specification's values in its results, and its arguments are as they were. -/
theorem run_values (ρ : Dev nD → PrngReg) :
    θ_run (defs (F := Ideal)) (onTc (τ := τ) (main (F := Ideal))) ⟨m, fun _ => 0, ρ⟩ fun r => ∀ c : Dev nD,
      (∀ k h, r.2.mem ((c.tc : Thread nD τ).loc main_v5_0) (ix2 k h) = Spec.meanCentres (feat m c) (cens m c) (fac1 m c) (fac2 m c) k h)
      ∧ (∀ b n, r.2.mem ((c.tc : Thread nD τ).loc main_v6) (ix2 b n) = Spec.labelWord (Spec.distances (feat m c) (cens m c) b) n)
      ∧ (∀ b n k, r.2.mem ((c.tc : Thread nD τ).loc main_v7) (ix3 b n k) = Spec.hot (Spec.distances (feat m c) (cens m c) b) n k)
      ∧ (∀ b n k, r.2.mem ((c.tc : Thread nD τ).loc main_v8) (ix3 b n k) = Spec.confidence (Spec.distances (feat m c) (cens m c) b) k n)
      ∧ (∀ b n k, r.2.mem ((c.tc : Thread nD τ).loc main_v9) (ix3 b n k) = Spec.distances (feat m c) (cens m c) b k n)
      ∧ r.2.mem ((c.tc : Thread nD τ).loc main_v10) ix0 = Spec.lastCosine (feat m c) (cens m c) (fac1 m c) (fac2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (run_reads m ρ) fun r hr c => ?_
  obtain ⟨h3, h4, h5, h6, h7, h8, ha⟩ := hr c
  exact ⟨fun k h => congrFun (h3.trans (arr3 m c)) _, fun b n => (h4 b n).trans (congrFun (arr4 m c) _),
    fun b n k => (h5 b n k).trans (congrFun (arr5 m c) _), fun b n k => (h6 b n k).trans (congrFun (arr6 m c) _),
    fun b n k => (h7 b n k).trans (congrFun (arr7 m c) _), h8.trans (congrFun (arr8 m c) _), ha⟩

end Cert.KSide

end
-- ==== Proof.Agree.lean ====
/- The kernel and the reference, from memories agreeing on the arguments, end with equal results. -/
module

public import proofs.«01_k».proof.Proof.KernelRun
public import proofs.«01_k».proof.Proof.RefFinal

@[expose] public section

set_option maxRecDepth 65536

noncomputable section

namespace Cert.Proof

open Idealize.ShloMosaic Idealize.ShloMosaic.StableHlo Idealize.SL.Sem

/-- Two vectors over one axis pair that agree at every pair of coordinates are equal. -/
theorem ext2 {α : Type} {n k : ℕ} {f g : (⟨2, ![n, k]⟩ : Shape).Idx → α} (h : ∀ a b, f (ix2 a b) = g (ix2 a b)) : f = g := by
  funext i
  have e : i = ix2 (i 0) (i 1) := by funext a; fin_cases a <;> rfl
  rw [e]
  exact h _ _

/-- The same over three axes. -/
theorem ext3 {α : Type} {n k l : ℕ} {f g : (⟨3, ![n, k, l]⟩ : Shape).Idx → α} (h : ∀ a b c, f (ix3 a b c) = g (ix3 a b c)) : f = g := by
  funext i
  have e : i = ix3 (i 0) (i 1) (i 2) := by funext a; fin_cases a <;> rfl
  rw [e]
  exact h _ _ _

/-- The same over no axis. -/
theorem ext0 {α : Type} {f g : (⟨0, ![]⟩ : Shape).Idx → α} (h : f ix0 = g ix0) : f = g := by
  funext i
  have e : i = ix0 := funext fun a => a.elim0
  rw [e]
  exact h

variable [Cert.ReferenceIdeal.Facts]
  (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Memories agreeing on the arguments hold the same points, centres and factors. -/
theorem same_inputs
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    RefSide.feat (launchContents m' c) = KSide.feat m c ∧ RefSide.cens (launchContents m' c) = KSide.cens m c
      ∧ RefSide.fac1 (launchContents m' c) = KSide.fac1 m c ∧ RefSide.fac2 (launchContents m' c) = KSide.fac2 m c := by
  refine ⟨?_, ?_, ?_, ?_⟩
  · funext b j h
    exact congrArg (fun X => shapeCast Cert.KernelIdeal.S4x768x4096 X Cert.KernelIdeal.Facts₀.shapeCasts_S4x768x64x64_S4x768x4096 (ix3 b h j)) h0
  · funext k h
    exact congrFun h1 (ix2 k h)
  · exact congrArg (fun X => FloatOps.sitofp (F := Ideal) .f32 (X ix0 : BitVec 32)) h2
  · exact congrArg (fun X => FloatOps.sitofp (F := Ideal) .f32 (X ix0 : BitVec 32)) h3

/-- Memories agreeing on the arguments: both programs run to the end, with equal results and their arguments as they were. -/
theorem agree : Cert.algebraic_KernelIdeal_ReferenceIdeal := by
  intro m g m' g' _ hm
  refine ⟨fun c => fun i : Cert.KernelIdeal.S2x768.Idx => Spec.meanCentres (KSide.feat m c) (KSide.cens m c) (KSide.fac1 m c) (KSide.fac2 m c) (i 0) (i 1),
    fun c => fun i : Cert.KernelIdeal.S4x4096.Idx => Spec.labelWord (Spec.distances (KSide.feat m c) (KSide.cens m c) (i 0)) (i 1),
    fun c => fun i : Cert.KernelIdeal.S4x4096x2.Idx => Spec.hot (Spec.distances (KSide.feat m c) (KSide.cens m c) (i 0)) (i 1) (i 2),
    fun c => fun i : Cert.KernelIdeal.S4x4096x2.Idx => Spec.confidence (Spec.distances (KSide.feat m c) (KSide.cens m c) (i 0)) (i 2) (i 1),
    fun c => fun i : Cert.KernelIdeal.S4x4096x2.Idx => Spec.distances (KSide.feat m c) (KSide.cens m c) (i 0) (i 2) (i 1),
    fun c => fun i : Cert.KernelIdeal.S4x4096.Idx => Spec.labelWord (Spec.distances (KSide.feat m c) (KSide.cens m c) (i 0)) (i 1),
    fun c => fun _ : Cert.KernelIdeal.S_.Idx => Spec.lastCosine (KSide.feat m c) (KSide.cens m c) (KSide.fac1 m c) (KSide.fac2 m c), ?_, ?_⟩
  · refine θ_run_mono (KSide.run_values m g) fun r hr c => ?_
    obtain ⟨h0, h1, h2, h3, h4, h6, ha⟩ := hr c
    exact ⟨ext2 h0, ext2 h1, ext3 h2, ext3 h3, ext3 h4, ext2 h1, ext0 h6, ha⟩
  · refine θ_run_mono (RefSide.run_values m' g') fun r hr c => ?_
    obtain ⟨W, hW, h⟩ := hr c
    obtain ⟨e0, e1, e2, e3⟩ := same_inputs m m' c (hm c).1 (hm c).2.1 (hm c).2.2.1 (hm c).2.2.2
    obtain ⟨-, hl, hd, ho, hn, hf, hs⟩ := id hW
    rw [e0, e1] at hl hd ho hf
    rw [e0, e1, e2, e3] at hn hs
    exact ⟨(h _).trans (ext2 hn), (h _).trans (ext2 hl), (h _).trans (ext3 ho), (h _).trans (ext3 hf), (h _).trans (ext3 hd), (h _).trans (ext2 hl),
      (h _).trans (ext0 hs), (h _).trans hW.unchanged.1, (h _).trans hW.unchanged.2.1, (h _).trans hW.unchanged.2.2.1,
      (h _).trans hW.unchanged.2.2.2⟩

end Cert.Proof

end
-- ==== Proof.lean ====
/- The proof of the claim: the two kernels' frames, the reference's frame, and the equality of results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFinal
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The claim. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.RefSide.frame m g, trivial, agree⟩

end Cert.Proof

end
